-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x8192 : Shape := ⟨3, ![128, 1, 8192]⟩
abbrev S8192x8192 : Shape := ⟨2, ![8192, 8192]⟩
abbrev S8192 : Shape := ⟨1, ![8192]⟩
abbrev S1x8192 : Shape := ⟨2, ![1, 8192]⟩
abbrev S128x8192 : Shape := ⟨2, ![128, 8192]⟩
abbrev S1x128 : Shape := ⟨2, ![1, 128]⟩
abbrev S8192x512 : Shape := ⟨2, ![8192, 512]⟩
abbrev S1x512 : Shape := ⟨2, ![1, 512]⟩
abbrev S128x1x512 : Shape := ⟨3, ![128, 1, 512]⟩
abbrev S128x1 : Shape := ⟨2, ![128, 1]⟩
abbrev S128 : Shape := ⟨1, ![128]⟩
abbrev S128x128 : Shape := ⟨2, ![128, 128]⟩
abbrev S128x512 : Shape := ⟨2, ![128, 512]⟩
abbrev S128x1x1 : Shape := ⟨3, ![128, 1, 1]⟩

abbrev nBuf : Space → Nat
  | .hbm => 11
  | .vmem => 12
  | .smem => 0
  | _ => 0

abbrev bufTy : (tb : Table) → Fin (tcTables nBuf tb) → BufTy
  | .hbm, ⟨0, _⟩ => ⟨S128x1x8192, .f32⟩
  | .hbm, ⟨1, _⟩ => ⟨S8192x8192, .fp8e4m3⟩
  | .hbm, ⟨2, _⟩ => ⟨S8192, .f32⟩
  | .hbm, ⟨3, _⟩ => ⟨S8192, .f32⟩
  | .hbm, ⟨4, _⟩ => ⟨S1x8192, .f32⟩
  | .hbm, ⟨5, _⟩ => ⟨S1x8192, .f32⟩
  | .hbm, ⟨6, _⟩ => ⟨S128x1x8192, .f32⟩
  | .hbm, ⟨7, _⟩ => ⟨S128x8192, .fp8e4m3⟩
  | .hbm, ⟨8, _⟩ => ⟨S1x128, .f32⟩
  | .hbm, ⟨9, _⟩ => ⟨S128x1x8192, .fp8e4m3⟩
  | .hbm, ⟨10, _⟩ => ⟨S128x1x1, .f32⟩
  | .local _ .vmem, ⟨0, _⟩ => ⟨S128x1x8192, .f32⟩
  | .local _ .vmem, ⟨1, _⟩ => ⟨S8192x512, .fp8e4m3⟩
  | .local _ .vmem, ⟨2, _⟩ => ⟨S8192x512, .fp8e4m3⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S128x1x512, .f32⟩
  | .local _ .vmem, ⟨8, _⟩ => ⟨S128x1x512, .f32⟩
  | .local _ .vmem, ⟨9, _⟩ => ⟨S128x8192, .fp8e4m3⟩
  | .local _ .vmem, ⟨10, _⟩ => ⟨S1x128, .f32⟩
  | .local _ .vmem, ⟨11, _⟩ => ⟨S128x1, .f32⟩
  | _, _ => ⟨S128x1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S128x1x8192 : Shape := ⟨3, ![128, 1, 8192]⟩
abbrev S8192x8192 : Shape := ⟨2, ![8192, 8192]⟩
abbrev S8192 : Shape := ⟨1, ![8192]⟩
abbrev S1x8192 : Shape := ⟨2, ![1, 8192]⟩
abbrev S128x1x1 : Shape := ⟨3, ![128, 1, 1]⟩
abbrev S128x8192 : Shape := ⟨2, ![128, 8192]⟩
abbrev S128 : Shape := ⟨1, ![128]⟩
abbrev S128x1 : Shape := ⟨2, ![128, 1]⟩
abbrev S128x254 : Shape := ⟨2, ![128, 254]⟩

abbrev nBuf : Space → Nat
  | .hbm => 9
  | .vmem => 7
  | .smem => 0
  | _ => 0

abbrev bufTy : (tb : Table) → Fin (tcTables nBuf tb) → BufTy
  | .hbm, ⟨0, _⟩ => ⟨S128x1x8192, .f32⟩
  | .hbm, ⟨1, _⟩ => ⟨S8192x8192, .fp8e4m3⟩
  | .hbm, ⟨2, _⟩ => ⟨S8192, .f32⟩
  | .hbm, ⟨3, _⟩ => ⟨S8192, .f32⟩
  | .hbm, ⟨4, _⟩ => ⟨S1x8192, .f32⟩
  | .hbm, ⟨5, _⟩ => ⟨S1x8192, .f32⟩
  | .hbm, ⟨6, _⟩ => ⟨S128x1x8192, .f32⟩
  | .hbm, ⟨7, _⟩ => ⟨S128x1x8192, .fp8e4m3⟩
  | .hbm, ⟨8, _⟩ => ⟨S128x1x1, .f32⟩
  | .local _ .vmem, ⟨0, _⟩ => ⟨S128x1x8192, .f32⟩
  | .local _ .vmem, ⟨1, _⟩ => ⟨S8192x8192, .fp8e4m3⟩
  | .local _ .vmem, ⟨2, _⟩ => ⟨S1x8192, .f32⟩
  | .local _ .vmem, ⟨3, _⟩ => ⟨S1x8192, .f32⟩
  | .local _ .vmem, ⟨4, _⟩ => ⟨S128x1x8192, .f32⟩
  | .local _ .vmem, ⟨5, _⟩ => ⟨S128x1x8192, .fp8e4m3⟩
  | .local _ .vmem, ⟨6, _⟩ => ⟨S128x1x1, .f32⟩
  | _, _ => ⟨S128x1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S128x1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.BitsRun.lean ====
module

public import proofs.«01_k».proof.Proof.Gen.Kernel.Frame
public import proofs.«01_k».proof.Proof.Gen.Kernel.Skeleton
public import Idealize.ShloMosaic.Lib.Pipeline.TableIdle
public import Idealize.ShloMosaic.Lib.Pipeline.Value
public import Idealize.ShloMosaic.Lib.VecWindow
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one run of the body computes -/

/-- The exponent `e` of each row's `max |x| / 448`, from the staged `x` block (the search over the exponent field). -/
def expo (x0 : Vec F S128x1x8192 .f32) : IVec S128x1 32 :=
  k0_pay13 (k0_pay7 x0) (k0_pay8 x0) (k0_pay9 x0) (k0_pay10 x0) (k0_pay11 x0) k0_pay12

/-- The same exponent clamped to `[-127, 128]`, the field's range. -/
def clampedExpo (x0 : Vec F S128x1x8192 .f32) : IVec S128x1 32 :=
  k0_pay14 (k0_pay7 x0) (k0_pay8 x0) (k0_pay9 x0) (k0_pay10 x0) (k0_pay11 x0) k0_pay12

/-- The quantised block the body stores. -/
def codesOf (x0 : Vec F S128x1x8192 .f32) : Vec F S128x8192 .fp8e4m3 := k0_pay2 (k0_pay6 x0) (expo x0)

/-- The column of scales the body keeps in its scratch buffer. -/
def scaleOf (x0 : Vec F S128x1x8192 .f32) : Vec F S128x1 .f32 := k0_pay3 (F := F) (clampedExpo x0) 127#32

/-- The row of scales the body stores. -/
def rowOf (x0 : Vec F S128x1x8192 .f32) : Vec F S1x128 .f32 := k0_pay4 (F := F) (clampedExpo x0) 127#32

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The staging memrefs at a point -/

/-- Each window's current staging memref at point `t`, spelled as the pipeline passes it (`bodyAt0`), and its wholeness. -/
abbrev ms0_0 (t : Fin cfg0.N) : Memref sig .tc .vmem S128x1x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x8192 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S128x1 .f32 := Memref.whole cc0_scratch0

/-- The launch's scoped rest with the scratch operand as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The body's two runs -/

/-- The block of `y` from equal operands. -/
theorem pay5_congr {v3 w3 : Vec F S128x8192 .fp8e4m3} {v5 w5 : Vec F S8192x512 .fp8e4m3} {v7 w7 : Vec F S128x1 .f32}
    {v10 w10 v14 w14 : Vec F S1x512 .f32} (h3 : v3 = w3) (h5 : v5 = w5) (h7 : v7 = w7) (h10 : v10 = w10) (h14 : v14 = w14) :
    k0_pay5 v3 v5 v7 v10 v14 = k0_pay5 w3 w5 w7 w10 w14 := by
  subst h3 h5 h7 h10 h14; rfl

/-- A load of a whole memref reads its contents. -/
theorem load_whole {sp : Space} {S : Shape} {e : EltTy} {M : Memref sig .tc sp S e} (h : M.IsWhole) {off : Fin S.rank → ℕ}
    (inb : ∀ a, off a + S.size a ≤ S.size a) (X : S.Idx → Elt F e) :
    M.view.readAt (Elt F) (Rect.unit off S.size inb).toLoadRect (h.unread X) = X :=
  (View.readAt_full _ _ _).trans (h.read_unread X)

/-- Both zero offsets. -/
theorem off2 : (![0, 0] : Fin 2 → ℕ) = fun _ => 0 := by funext a; fin_cases a <;> rfl
/-- All three zero offsets. -/
theorem off3 : (![0, 0, 0] : Fin 3 → ℕ) = fun _ => 0 := by funext a; fin_cases a <;> rfl

set_option maxHeartbeats 1000000 in
/-- The body at the first point: from the four staged inputs, it leaves the quantised block, the scales (as a row in its output, as a column in the scratch) and the first block of `y`. -/
theorem kernelRun_A (c : Dev nD) (i : grid0.Coords) (arg1 : Memref sig .tc .vmem S128x1x8192 .f32) (harg1 : arg1.IsWhole) (arg2 : Memref sig .tc .vmem S8192x512 .fp8e4m3) (harg2 : arg2.IsWhole) (arg3 : Memref sig .tc .vmem S1x512 .f32) (harg3 : arg3.IsWhole) (arg4 : Memref sig .tc .vmem S1x512 .f32) (harg4 : arg4.IsWhole) (arg5 : Memref sig .tc .vmem S128x1x512 .f32) (harg5 : arg5.IsWhole) (arg6 : Memref sig .tc .vmem S128x8192 .fp8e4m3) (harg6 : arg6.IsWhole) (arg7 : Memref sig .tc .vmem S1x128 .f32) (harg7 : arg7.IsWhole) (arg8 : Memref sig .tc .vmem S128x1 .f32) (harg8 : arg8.IsWhole) (hc0 : cond0_0 i)
    (x0 : Vec F S128x1x8192 .f32) (x1 : Vec F S8192x512 .fp8e4m3) (x2 : Vec F S1x512 .f32) (x3 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay5 (codesOf x0) x1 (scaleOf x0) x2 x3) ∗ owns (c : Thread nD τ) arg6 fullShare (codesOf x0) ∗ owns (c : Thread nD τ) arg7 fullShare (rowOf x0) ∗ owns (c : Thread nD τ) arg8 fullShare (scaleOf x0)) -∗ K ⟨⟩))
          ⊢ wp frame (wpE (defs₀ (F := F)) Variants.none c none) E (cc0__body i arg1 harg1 arg2 harg2 arg3 harg3 arg4 harg4 arg5 harg5 arg6 harg6 arg7 harg7 arg8 harg8) K := by
    intro E K
    simp only [cc0__body_eq_skeleton]; unfold cc0__body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_full _ _ _ _ _).trans ?_
      exact pay5_congr ((View.readCov_full _ _ _ _ _).trans (congrArg codesOf (load_whole harg1 _ x0))) (load_whole harg2 _ x1)
        ((View.readCov_full _ _ _ _ _).trans (congrArg scaleOf (load_whole harg1 _ x0))) (load_whole harg3 _ x2) (load_whole harg4 _ x3)
    isplitl [H5]
    · iexists _; isplitr; swap; · iexact H5
      ipureintro
      refine (View.read_writes_full _ _ _ _ _).trans ?_
      exact congrArg codesOf (load_whole harg1 _ x0)
    isplitl [H6]
    · iexists _; isplitr; swap; · iexact H6
      ipureintro
      refine (View.read_writes_full _ _ _ _ _).trans ?_
      exact congrArg rowOf (load_whole harg1 _ x0)
    iexists _; isplitr; swap; · iexact HS0
    ipureintro
    refine (View.read_writes_full _ _ _ _ _).trans ?_
    exact congrArg scaleOf (load_whole harg1 _ x0)

set_option maxHeartbeats 1000000 in
/-- The body at a later point: it reads the quantised block and the column of scales the first point left, leaves both as they are, and stores this point's block of `y`. -/
theorem kernelRun_B (c : Dev nD) (i : grid0.Coords) (arg1 : Memref sig .tc .vmem S128x1x8192 .f32) (harg1 : arg1.IsWhole) (arg2 : Memref sig .tc .vmem S8192x512 .fp8e4m3) (harg2 : arg2.IsWhole) (arg3 : Memref sig .tc .vmem S1x512 .f32) (harg3 : arg3.IsWhole) (arg4 : Memref sig .tc .vmem S1x512 .f32) (harg4 : arg4.IsWhole) (arg5 : Memref sig .tc .vmem S128x1x512 .f32) (harg5 : arg5.IsWhole) (arg6 : Memref sig .tc .vmem S128x8192 .fp8e4m3) (harg6 : arg6.IsWhole) (arg7 : Memref sig .tc .vmem S1x128 .f32) (harg7 : arg7.IsWhole) (arg8 : Memref sig .tc .vmem S128x1 .f32) (harg8 : arg8.IsWhole) (hc0 : ¬cond0_0 i)
    (x0 : Vec F S128x1x8192 .f32) (x1 : Vec F S8192x512 .fp8e4m3) (x2 : Vec F S1x512 .f32) (x3 : Vec F S1x512 .f32)
    (xc : Vec F S128x8192 .fp8e4m3) (xr : Vec F S1x128 .f32) (xs : Vec F S128x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xc ∗ owns (c : Thread nD τ) arg7 fullShare xr ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay5 xc x1 xs x2 x3) ∗ owns (c : Thread nD τ) arg6 fullShare xc ∗ owns (c : Thread nD τ) arg7 fullShare xr ∗ owns (c : Thread nD τ) arg8 fullShare xs) -∗ K ⟨⟩))
          ⊢ wp frame (wpE (defs₀ (F := F)) Variants.none c none) E (cc0__body i arg1 harg1 arg2 harg2 arg3 harg3 arg4 harg4 arg5 harg5 arg6 harg6 arg7 harg7 arg8 harg8) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_full _ _ _ _ _).trans ?_
      exact pay5_congr (load_whole harg6 _ xc) (load_whole harg2 _ x1) (load_whole harg8 _ xs) (load_whole harg3 _ x2) (load_whole harg4 _ x3)
    isplitl [H5]
    · iexists _; isplitr; · ipureintro; exact harg6.read_unread _
      iexact H5
    isplitl [H6]
    · iexists _; isplitr; · ipureintro; exact harg7.read_unread _
      iexact H6
    iexists _; isplitr; · ipureintro; exact harg8.read_unread _
    iexact HS0

end Cert.Kernel.Run

end
-- ==== Proof.BitsData.lean ====
module

public import proofs.«01_k».proof.Proof.BitsRun

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The first grid point. -/
abbrev t0 : Fin cfg0.N := (t0_0 : Fin grid0.N)

/-- The whole of `x`, as the first point stages it. -/
def xBlock (c : Dev nD) : Vec F S128x1x8192 .f32 := iblk m c 0 t0

/-- The invariant before point `n`: the scratch buffer holds the column of scales once the first point has run. -/
def Phi (c : Dev nD) (n : ℕ) : sProp 𝕄 :=
  iprop(iprop(∃ a, ⌜n ≠ 0 → a = scaleOf (xBlock m c)⌝ ∗ owns (c : Thread nD τ) scM0_0 fullShare a) ∗ (∃ r, prngReg c r))

/-- The proof data: the arrays as the region finds them; after the body at point `t` each input's buffer at its block, window
    4's at that point's block of `y`, windows 5 and 6 at the quantised block and the row of scales (which the first point
    stores and the later ones leave). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay5 (codesOf (xBlock m c)) (iblk m c 1 t) (scaleOf (xBlock m c)) (iblk m c 2 t) (iblk m c 3 t)
    | ⟨5, _⟩ => codesOf (xBlock m c)
    | ⟨6, _⟩ => rowOf (xBlock m c)
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = k0_pay5 (codesOf (xBlock m c)) (iblk m c 1 t) (scaleOf (xBlock m c)) (iblk m c 2 t) (iblk m c 3 t) := by dsimp only [dats]
theorem after0_5 (c : Dev nD) (t : Fin cfg0.N) : (dats m 0 c).after 5 t = codesOf (xBlock m c) := by dsimp only [dats]
theorem after0_6 (c : Dev nD) (t : Fin cfg0.N) : (dats m 0 c).after 6 t = rowOf (xBlock m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Windows 5 and 6 are idle at every point but the first. -/
theorem idle_5 (t : Fin cfg0.N) (ht : t.val % 16 ≠ 0) : cfg0.idle 5 (grid0.coords t) = true := by
  show (!(k0_cond1 (grid0.coords t) == 1#1)) = true
  have h : ¬cond0_0 (grid0.coords t) := fun h => ht ((hcond0_0 t).mp h)
  simpa using h
theorem idle_6 (t : Fin cfg0.N) (ht : t.val % 16 ≠ 0) : cfg0.idle 6 (grid0.coords t) = true := idle_5 t ht
/-- They are not idle at the first. -/
theorem live_5 (t : Fin cfg0.N) (ht : t.val % 16 = 0) : cfg0.idle 5 (grid0.coords t) = false := by
  show (!(k0_cond1 (grid0.coords t) == 1#1)) = false
  have h : cond0_0 (grid0.coords t) := (hcond0_0 t).mpr ht
  simpa using h
theorem live_6 (t : Fin cfg0.N) (ht : t.val % 16 = 0) : cfg0.idle 6 (grid0.coords t) = false := live_5 t ht
theorem live_4 (t : Fin cfg0.N) : cfg0.idle 4 (grid0.coords t) = false := rfl

/-- Neither has been written back before point `t`, so past the first point its buffer is not fresh. -/
theorem fresh_5 (n : ℕ) (hn : n ≤ cfg0.N) (h0 : n < 16) : cfg0.fresh 5 n = decide (n = 0) := by
  refine (cfg0.fresh_tab 5 (fun k => decide (k = 0 ∨ 16 ≤ k)) rfl (fun t => ?_) n hn).trans ?_
  · have hN : t.val < 16 := lt_of_lt_of_eq t.isLt (show cfg0.N = 16 from N_0)
    by_cases h : t.val % 16 = 0
    · rw [show cfg0.idle 5 (cfg0.grid.coords t) = false from live_5 t h]
      rcases hf : (cfg0.win 5).flush t with _ | _
      · have : ¬t.val % 16 = 15 := fun h' => by rw [(flush0_5 t).mpr h'] at hf; cases hf
        simp only [Bool.false_and, Bool.or_false, decide_eq_false_iff_not]; omega
      · have := (flush0_5 t).mp hf
        omega
    · rw [show cfg0.idle 5 (cfg0.grid.coords t) = true from idle_5 t h]
      rcases hf : (cfg0.win 5).flush t with _ | _
      · have : ¬t.val % 16 = 15 := fun h' => by rw [(flush0_5 t).mpr h'] at hf; cases hf
        simp only [Bool.true_and, Bool.false_or, decide_eq_decide]; omega
      · have := (flush0_5 t).mp hf
        simp only [Bool.true_or, decide_eq_true_eq]; omega
  · simp only [decide_eq_decide]; omega
theorem fresh_6 (n : ℕ) (hn : n ≤ cfg0.N) (h0 : n < 16) : cfg0.fresh 6 n = decide (n = 0) := by
  refine (cfg0.fresh_tab 6 (fun k => decide (k = 0 ∨ 16 ≤ k)) rfl (fun t => ?_) n hn).trans ?_
  · have hN : t.val < 16 := lt_of_lt_of_eq t.isLt (show cfg0.N = 16 from N_0)
    by_cases h : t.val % 16 = 0
    · rw [show cfg0.idle 6 (cfg0.grid.coords t) = false from live_6 t h]
      rcases hf : (cfg0.win 6).flush t with _ | _
      · have : ¬t.val % 16 = 15 := fun h' => by rw [(flush0_6 t).mpr h'] at hf; cases hf
        simp only [Bool.false_and, Bool.or_false, decide_eq_false_iff_not]; omega
      · have := (flush0_6 t).mp hf
        omega
    · rw [show cfg0.idle 6 (cfg0.grid.coords t) = true from idle_6 t h]
      rcases hf : (cfg0.win 6).flush t with _ | _
      · have : ¬t.val % 16 = 15 := fun h' => by rw [(flush0_6 t).mpr h'] at hf; cases hf
        simp only [Bool.true_and, Bool.false_or, decide_eq_decide]; omega
      · have := (flush0_6 t).mp hf
        simp only [Bool.true_or, decide_eq_true_eq]; omega
  · simp only [decide_eq_decide]; omega

/-- Past the first point, window 5's buffer holds the quantised block. -/
theorem before0_5 (c : Dev nD) (t : Fin cfg0.N) (ht : t.val ≠ 0) (d) : (dats m 0 c).before 5 t d = codesOf (xBlock m c) := by
  have hN : t.val < 16 := lt_of_lt_of_eq t.isLt (show cfg0.N = 16 from N_0)
  rw [(dats m 0 c).before_out_traj 5 rfl (fun _ _ => rfl) (fun t _ _ _ => by rw [after0_5, after0_5]) t.val t rfl d,
    fresh_5 t.val (le_of_lt t.isLt) hN, decide_eq_false ht, if_neg Bool.false_ne_true, after0_5]
/-- Past the first point, window 6's buffer holds the row of scales. -/
theorem before0_6 (c : Dev nD) (t : Fin cfg0.N) (ht : t.val ≠ 0) (d) : (dats m 0 c).before 6 t d = rowOf (xBlock m c) := by
  have hN : t.val < 16 := lt_of_lt_of_eq t.isLt (show cfg0.N = 16 from N_0)
  rw [(dats m 0 c).before_out_traj 6 rfl (fun _ _ => rfl) (fun t _ _ _ => by rw [after0_6, after0_6]) t.val t rfl d,
    fresh_6 t.val (le_of_lt t.isLt) hN, decide_eq_false ht, if_neg Bool.false_ne_true, after0_6]

/-- What the post asks of windows 5 and 6 at a later point, written back there or not: the contents the first point left. -/
theorem leaves_5 (c : Dev nD) (t : Fin cfg0.N) (ht : t.val ≠ 0) :
    owns (c : Thread nD τ) (ms0_5 t) fullShare (codesOf (xBlock m c)) ⊢ ((dats m 0 c).leavesExact 5 t : sProp 𝕄) := by
  have hN : t.val < 16 := lt_of_lt_of_eq t.isLt (show cfg0.N = 16 from N_0)
  unfold Dat.leavesExact
  rw [show cfg0.idle 5 (cfg0.grid.coords t) = true from idle_5 t (by omega)]
  rcases hf : (cfg0.win 5).flush t with _ | _
  · show _ ⊢ (iprop(∃ d, owns (c : Thread nD τ) (ms0_5 t) fullShare ((dats m 0 c).before 5 t d)) : sProp 𝕄)
    iintro H
    iexists codesOf (xBlock m c)
    rw [before0_5 m c t ht]
    iexact H
  · show _ ⊢ (owns (c : Thread nD τ) (ms0_5 t) fullShare ((dats m 0 c).after 5 t) : sProp 𝕄)
    rw [after0_5]
theorem leaves_6 (c : Dev nD) (t : Fin cfg0.N) (ht : t.val ≠ 0) :
    owns (c : Thread nD τ) (ms0_6 t) fullShare (rowOf (xBlock m c)) ⊢ ((dats m 0 c).leavesExact 6 t : sProp 𝕄) := by
  have hN : t.val < 16 := lt_of_lt_of_eq t.isLt (show cfg0.N = 16 from N_0)
  unfold Dat.leavesExact
  rw [show cfg0.idle 6 (cfg0.grid.coords t) = true from idle_6 t (by omega)]
  rcases hf : (cfg0.win 6).flush t with _ | _
  · show _ ⊢ (iprop(∃ d, owns (c : Thread nD τ) (ms0_6 t) fullShare ((dats m 0 c).before 6 t d)) : sProp 𝕄)
    iintro H
    iexists rowOf (xBlock m c)
    rw [before0_6 m c t ht]
    iexact H
  · show _ ⊢ (owns (c : Thread nD τ) (ms0_6 t) fullShare ((dats m 0 c).after 6 t) : sProp 𝕄)
    rw [after0_6]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body's triple at any point: the first point's run, or a later point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  unfold Phi
  have hN : t.val < 16 := lt_of_lt_of_eq t.isLt (show cfg0.N = 16 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [live_4 t], after0_4]
  by_cases h0 : t.val % 16 = 0
  · obtain rfl : t = t0 := Fin.ext (by show t.val = 0; omega)
    rw [show (dats m 0 c).leavesExact 5 t0 = owns (c : Thread nD τ) (ms0_5 t0) fullShare ((dats m 0 c).after 5 t0) from by
        unfold Dat.leavesExact; rw [show cfg0.idle 5 (cfg0.grid.coords t0) = false from live_5 t0 h0], after0_5]
    rw [show (dats m 0 c).leavesExact 6 t0 = owns (c : Thread nD τ) (ms0_6 t0) fullShare ((dats m 0 c).after 6 t0) from by
        unfold Dat.leavesExact; rw [show cfg0.idle 6 (cfg0.grid.coords t0) = false from live_6 t0 h0], after0_6]
    iintro ⟨⟨⟨%a, -, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun_A c (grid0.coords t0) _ _ _ _ _ _ _ _ _ _ _ _ _ _ _ _ ((hcond0_0 t0).mpr h0) (iblk m c 0 t0) (iblk m c 1 t0) (iblk m c 2 t0) (iblk m c 3 t0)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexists _; iexact HS0
    iintro ⟨H0, H1, H2, H3, H4, H5, H6, HS0⟩
    isplitl [HS0 Hg]
    · isplitl [HS0]
      · iexists scaleOf (xBlock m c)
        isplitr; · ipureintro; exact fun _ => rfl
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have ht : t.val ≠ 0 := by omega
    rw [exists_held ht (scaleOf (xBlock m c)) (fun a => owns (c : Thread nD τ) scM0_0 fullShare a)]
    simp only [before0_5 m c t ht, before0_6 m c t ht]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((kernelRun_B c (grid0.coords t) _ _ _ _ _ _ _ _ _ _ _ _ _ _ _ _ (fun h => h0 ((hcond0_0 t).mp h)) (iblk m c 0 t) (iblk m c 1 t) (iblk m c 2 t) (iblk m c 3 t)
      (codesOf (xBlock m c)) (rowOf (xBlock m c)) (scaleOf (xBlock m c))) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    iintro ⟨H0, H1, H2, H3, H4, H5, H6, HS0⟩
    isplitl [HS0 Hg]
    · isplitl [HS0]
      · iexists scaleOf (xBlock m c)
        isplitr; · ipureintro; exact fun _ => rfl
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves_5 m c t ht); iexact H5
    iapply (leaves_6 m c t ht); iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The launch deals the invariant its start: the scratch buffer at anything; -/
theorem hin (c : Dev nD) : (Pipeline.ΦA spec0 c : sProp 𝕄) ⊢ (dats m 0 c).Φ 0 := by
  rw [PhiA0_eq, show (dats m 0 c).Φ 0 = Phi m c 0 from rfl]
  unfold Phi
  iintro ⟨⟨%d, H⟩, Hg⟩
  isplitl [H]
  · iexists d
    isplitr; · ipureintro; exact fun h => absurd rfl h
    iexact H
  iexact Hg
/-- and at the end the contents are forgotten. -/
theorem hout (c : Dev nD) : (dats m 0 c).Φ (Fin.last cfg0.N) ⊢ (Pipeline.ΦA spec0 c : sProp 𝕄) := by
  rw [PhiA0_eq, show (dats m 0 c).Φ (Fin.last cfg0.N) = Phi m c cfg0.N from rfl]
  unfold Phi
  iintro ⟨⟨%a, -, H⟩, Hg⟩
  isplitl [H]
  · iexists a
    iexact H
  iexact Hg

set_option backward.isDefEq.respectTransparency.types false in
set_option maxHeartbeats 800000 in
/-- The whole run: every array of the pipeline and every other buffer named after it, no semaphore pending. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (hbody := fun c => (body_obligation m c).loose) (hshare := fun c => (dats m 0 c).share_full fun _ => rfl) (howed := fun _ _ => rfl) (V₀ := V0 m) (opss := [hostOps1])
    (hsub := sfx_sub) (hfresh := sfx_fresh) (hkeep := sfx_keeps) (hmain := hmain m Variants.none) (hA := A_eq m) (hin := hin m) (hout := hout m)
    (Q' := fun r => Pipeline.FramePost cfgs (dats m) 0 (Pipeline.afterTail₀ cfgs (dats m) 0 (V0 m) [hostOps1]) r ∧ r.2.sem = fun _ => 0)
    (hQ' := fun _ h => h)

/-- The kernel at its own words: every argument ends as it began, every semaphore at zero. -/
theorem quiet (g : Dev nD → PrngReg) : θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r hr => ⟨fun c => by
    obtain ⟨h, -⟩ := hr
    exact ⟨((h c).1 0).trans (((dats m 0 c).arrAt_in 0 rfl _).trans ((A_eq m c 0).trans (Gen.V_main_arg0 m c))),
      ((h c).1 1).trans (((dats m 0 c).arrAt_in 1 rfl _).trans ((A_eq m c 1).trans (Gen.V_main_arg1 m c))),
      ((h c).2 main_arg2 (Pipeline.mem_restRefs_of main_arg2 (by decide) (by decide))).trans (Gen.W_main_arg2 m (dats m) c),
      ((h c).2 main_arg3 (Pipeline.mem_restRefs_of main_arg3 (by decide) (by decide))).trans (Gen.W_main_arg3 m (dats m) c)⟩, hr.2⟩)
    (run_main m g)

end Cert.Kernel.Run

end
-- ==== Proof.Scale.lean ====
module

public import Idealize.ShloMosaic.Lib.Pointwise
public import Idealize.ShloMosaic.Lib.WordSum
public import Idealize.ShloMosaic.PureOps.Ideal.Laws

@[expose] public section

set_option maxRecDepth 16384

/-! The power of two that scales a row, over the extended reals.

One side searches the exponent field bit by bit and assembles the power from its bits; the other counts the powers of two
that do not exceed the magnitude and raises two to the exponent. Both give the same exponent and the same power. -/

noncomputable section

namespace Cert.Scale

open Idealize.ShloMosaic

/-! ## Powers of two from their bits -/

/-- The number whose exponent field is `c`, its other bits zero. -/
def pat (c : BitVec 32) : EReal := FloatOps.ofBits (F := Ideal) .f32 (IntOp.shli .vector c 23#32)

/-- The bits of such a pattern: sign zero, the exponent field `c`, the fraction zero. -/
theorem pat_bits : ∀ c : Fin 256,
    (IntOp.shli .vector (BitVec.ofNat 32 c.val) 23#32).extractLsb' 31 1 = 0#1
    ∧ ((IntOp.shli .vector (BitVec.ofNat 32 c.val) 23#32).extractLsb' 23 8).toNat = c.val
    ∧ ((IntOp.shli .vector (BitVec.ofNat 32 c.val) 23#32).extractLsb' 0 23).toNat = 0 := by
  decide +kernel

/-- A pattern of sign 0, exponent field `c` and fraction 0, read as a number. -/
theorem ieee_of_bits (b : BitVec 32) (c : ℕ) (h1 : b.extractLsb' 31 1 = 0#1) (h2 : (b.extractLsb' 23 8).toNat = c)
    (h3 : (b.extractLsb' 0 23).toNat = 0) :
    Ideal.ieee 8 23 b = if c = 255 then ⊤ else if c = 0 then 0 else (((2 : ℝ) ^ ((c : ℤ) - 127) : ℝ) : EReal) := by
  have h23 : ((2 ^ 23 + 0 : ℕ) : ℝ) = (2 : ℝ) ^ (23 : ℤ) := by norm_num
  unfold Ideal.ieee
  simp only [show 8 + 23 = 31 from rfl, h1, h2, h3]
  by_cases h255 : c = 255
  · simp [h255]
  by_cases h0 : c = 0
  · simp [h0]
  simp only [h0, h255, if_false]
  rw [if_neg (by norm_num; exact h255), if_neg (by decide), h23, one_mul, ← zpow_add₀ (by norm_num : (2 : ℝ) ≠ 0)]
  congr 2
  norm_num

/-- It is zero at field 0, infinite at field 255, and `2 ^ (c - 127)` between. -/
theorem pat_eq (c : ℕ) (hc : c < 256) :
    pat (BitVec.ofNat 32 c) = if c = 255 then ⊤ else if c = 0 then 0 else (((2 : ℝ) ^ ((c : ℤ) - 127) : ℝ) : EReal) := by
  obtain ⟨h1, h2, h3⟩ := pat_bits ⟨c, hc⟩
  exact ieee_of_bits _ c h1 h2 h3

theorem pat_zero : pat 0#32 = 0 := (pat_eq 0 (by norm_num)).trans (by simp)
theorem pat_top : pat 255#32 = ⊤ := (pat_eq 255 (by norm_num)).trans (if_pos rfl)
theorem pat_mid (c : ℕ) (h0 : 1 ≤ c) (h1 : c ≤ 254) : pat (BitVec.ofNat 32 c) = (((2 : ℝ) ^ ((c : ℤ) - 127) : ℝ) : EReal) := by
  rw [pat_eq c (by omega), if_neg (by omega), if_neg (by omega)]

/-- The patterns increase with the field. -/
theorem pat_mono (c c' : ℕ) (h1 : 1 ≤ c) (h : c ≤ c') (h2 : c' ≤ 255) : pat (BitVec.ofNat 32 c) ≤ pat (BitVec.ofNat 32 c') := by
  by_cases h' : c' = 255
  · subst h'
    rw [show BitVec.ofNat 32 255 = 255#32 from rfl, pat_top]
    exact le_top
  · rw [pat_mid c h1 (by omega), pat_mid c' (by omega) (by omega)]
    exact EReal.coe_le_coe_iff.mpr (zpow_le_zpow_right₀ (by norm_num) (by omega))

/-! ## The search -/

/-- One step of the search: add `s` to the field if the power there does not exceed `w`. -/
def step (w : EReal) (t s : BitVec 32) : BitVec 32 :=
  Scalar.select (FloatOps.cmpf (F := Ideal) (φ := .f32) .oge w (pat (IntOp.addi t s))) (IntOp.addi t s) t

/-- The eight steps from the top bit down. -/
def search (w : EReal) : BitVec 32 :=
  step w (step w (step w (step w (step w (step w (step w (step w 0#32 128#32) 64#32) 32#32) 16#32) 8#32) 4#32) 2#32) 1#32

theorem step_ofNat (w : EReal) (t s : ℕ) : step w (BitVec.ofNat 32 t) (BitVec.ofNat 32 s)
    = BitVec.ofNat 32 (if pat (BitVec.ofNat 32 (t + s)) ≤ w then t + s else t) := by
  have ha : IntOp.addi (BitVec.ofNat 32 t) (BitVec.ofNat 32 s) = BitVec.ofNat 32 (t + s) := (BitVec.ofNat_add ..).symm
  unfold step
  rw [ha, Ideal.cmpf_def]
  unfold Ideal.cmp Scalar.select
  by_cases h : pat (BitVec.ofNat 32 (t + s)) ≤ w
  · rw [if_pos h]; simp [h]
  · rw [if_neg h]; simp [h]

/-- After a step the field is bracketed in an interval of half the length. -/
theorem step_bracket (w : EReal) (t h : ℕ) (ht : t + 2 * h ≤ 256) (hh : 1 ≤ h)
    (hlo : ∀ c, 1 ≤ c → c ≤ t → pat (BitVec.ofNat 32 c) ≤ w)
    (hhi : ∀ c, t + 2 * h ≤ c → c ≤ 255 → ¬pat (BitVec.ofNat 32 c) ≤ w) :
    ∃ t', step w (BitVec.ofNat 32 t) (BitVec.ofNat 32 h) = BitVec.ofNat 32 t' ∧ t' + h ≤ 256
      ∧ (∀ c, 1 ≤ c → c ≤ t' → pat (BitVec.ofNat 32 c) ≤ w)
      ∧ (∀ c, t' + h ≤ c → c ≤ 255 → ¬pat (BitVec.ofNat 32 c) ≤ w) := by
  rw [step_ofNat]
  by_cases hp : pat (BitVec.ofNat 32 (t + h)) ≤ w
  · refine ⟨t + h, by rw [if_pos hp], by omega, fun c h1 h2 => ?_, fun c h1 h2 => hhi c (by omega) h2⟩
    exact (pat_mono c (t + h) h1 h2 (by omega)).trans hp
  · refine ⟨t, by rw [if_neg hp], by omega, hlo, fun c h1 h2 hc => hp ?_⟩
    exact (pat_mono (t + h) c (by omega) h1 h2).trans hc

/-- The search finds the largest field whose power does not exceed `w`, 0 if none. -/
theorem search_spec (w : EReal) : ∃ T : ℕ, T ≤ 255 ∧ search w = BitVec.ofNat 32 T
    ∧ ∀ c, 1 ≤ c → c ≤ 255 → (pat (BitVec.ofNat 32 c) ≤ w ↔ c ≤ T) := by
  obtain ⟨t1, e1, b1, l1, u1⟩ := step_bracket w 0 128 (by omega) (by omega) (fun c h1 h2 => by omega) (fun c h1 h2 => by omega)
  obtain ⟨t2, e2, b2, l2, u2⟩ := step_bracket w t1 64 b1 (by omega) l1 u1
  obtain ⟨t3, e3, b3, l3, u3⟩ := step_bracket w t2 32 b2 (by omega) l2 u2
  obtain ⟨t4, e4, b4, l4, u4⟩ := step_bracket w t3 16 b3 (by omega) l3 u3
  obtain ⟨t5, e5, b5, l5, u5⟩ := step_bracket w t4 8 b4 (by omega) l4 u4
  obtain ⟨t6, e6, b6, l6, u6⟩ := step_bracket w t5 4 b5 (by omega) l5 u5
  obtain ⟨t7, e7, b7, l7, u7⟩ := step_bracket w t6 2 b6 (by omega) l6 u6
  obtain ⟨t8, e8, b8, l8, u8⟩ := step_bracket w t7 1 b7 (by omega) l7 u7
  refine ⟨t8, by omega, ?_, fun c h1 h2 => ⟨fun h => ?_, fun h => l8 c h1 h⟩⟩
  · unfold search
    rw [e1, e2, e3, e4, e5, e6, e7, e8]
  · by_contra hn
    exact u8 c (by omega) h2 h

/-! ## The count -/

/-- The `k`-th power the other side compares with, `2 ^ (k - 126)`, and the comparison as a word. -/
def countTerm (w : EReal) (k : BitVec 32) : BitVec 32 :=
  Scalar.select (FloatOps.cmpf (F := Ideal) (φ := .f32) .ole
    (FloatOps.exp2 (F := Ideal) (φ := .f32) (FloatOps.sitofp (F := Ideal) .f32 (IntOp.subi k 126#32))) w) 1#32 0#32

/-- Two to an integer. -/
theorem exp2_int (z : ℤ) : FloatOps.exp2 (F := Ideal) (φ := .f32) ((((z : ℝ)) : EReal)) = (((2 : ℝ) ^ z : ℝ) : EReal) := by
  show Ideal.exp2 ((z : ℝ) : EReal) = _
  rw [Ideal.exp2_coe]
  congr 1
  exact Real.rpow_intCast 2 z

theorem sub126_toInt : ∀ k : Fin 254, (IntOp.subi (BitVec.ofNat 32 k.val) 126#32).toInt = (k.val : ℤ) - 126 := by
  decide +kernel

theorem countTerm_toNat (w : EReal) (T : ℕ) (hT : ∀ c, 1 ≤ c → c ≤ 255 → (pat (BitVec.ofNat 32 c) ≤ w ↔ c ≤ T))
    (k : Fin 254) : (countTerm w (BitVec.ofNat 32 k.val)).toNat = if k.val < T then 1 else 0 := by
  have hk := k.isLt
  have hp : FloatOps.exp2 (F := Ideal) (φ := .f32) (FloatOps.sitofp (F := Ideal) .f32 (IntOp.subi (BitVec.ofNat 32 k.val) 126#32))
      = pat (BitVec.ofNat 32 (k.val + 1)) := by
    rw [pat_mid _ (by omega) (by omega)]
    show FloatOps.exp2 (F := Ideal) (φ := .f32) ((((IntOp.subi (BitVec.ofNat 32 k.val) 126#32).toInt : ℝ) : EReal)) = _
    rw [sub126_toInt, exp2_int]
    congr 2
    push_cast; ring
  unfold countTerm
  rw [hp, Ideal.cmpf_def]
  unfold Ideal.cmp Scalar.select
  have := hT (k.val + 1) (by omega) (by omega)
  by_cases h : k.val < T
  · have h' : pat (BitVec.ofNat 32 (k.val + 1)) ≤ w := this.mpr (by omega)
    simp [h, h']
  · have h' : ¬pat (BitVec.ofNat 32 (k.val + 1)) ≤ w := fun hh => h (by have := this.mp hh; omega)
    simp [h, h']

theorem count_sum (T : ℕ) : ∑ k : Fin 254, (if k.val < T then 1 else 0) = min T 254 := by
  rw [Fin.sum_univ_eq_sum_range (fun i => if i < T then 1 else 0) 254, ← Finset.sum_filter, Finset.sum_const, smul_eq_mul, mul_one]
  have : (Finset.range 254).filter (fun i => i < T) = Finset.range (min T 254) := by
    ext i; simp only [Finset.mem_filter, Finset.mem_range]; omega
  rw [this, Finset.card_range]

/-! ## The exponent -/

/-- The exponent from the field found by the search: 0 for a zero row, for field 0 and for field 255. -/
def expoOfField (a : EReal) (T : BitVec 32) : BitVec 32 :=
  Scalar.select (FloatOps.cmpf (F := Ideal) (φ := .f32) .oeq a (FloatOps.ofBits (F := Ideal) .f32 0x00000000#32)) 0#32
    (Scalar.select (IntOp.ori (IntOp.cmpi .eq T 0#32) (IntOp.cmpi .eq T 255#32)) 0#32 (IntOp.subi T 126#32))

/-- The exponent from the count: 0 for a zero row, for count 0 and for an infinite magnitude. -/
def expoOfCount (a w : EReal) (C : BitVec 32) : BitVec 32 :=
  Scalar.select (FloatOps.cmpf (F := Ideal) (φ := .f32) .oeq a (FloatOps.ofBits (F := Ideal) .f32 0x00000000#32)) 0#32
    (Scalar.select (IntOp.ori (IntOp.cmpi .eq C 0#32)
      (FloatOps.cmpf (F := Ideal) (φ := .f32) .oeq w (FloatOps.ofBits (F := Ideal) .f32 0x7F800000#32))) 0#32 (IntOp.subi C 126#32))

theorem inf_bits : FloatOps.ofBits (F := Ideal) .f32 0x7F800000#32 = (⊤ : EReal) := by
  show Ideal.ofBits .f32 0x7F800000#32 = _
  simp [Ideal.ofBits, Ideal.ieee]

/-- The tests on a field, by value. -/
theorem field_tests : ∀ T : Fin 256, IntOp.ori (IntOp.cmpi .eq (BitVec.ofNat 32 T.val) 0#32) (IntOp.cmpi .eq (BitVec.ofNat 32 T.val) 255#32)
    = if T.val = 0 ∨ T.val = 255 then 1#1 else 0#1 := by decide +kernel
theorem count_test : ∀ T : Fin 256, IntOp.cmpi .eq (BitVec.ofNat 32 T.val) 0#32 = if T.val = 0 then 1#1 else 0#1 := by decide +kernel

/-- Both exponents are the same, whatever the row's largest magnitude `a` and the scaled magnitude `w`. -/
theorem expo_eq (a w : EReal) (C : BitVec 32)
    (hC : ∀ T : ℕ, (∀ c, 1 ≤ c → c ≤ 255 → (pat (BitVec.ofNat 32 c) ≤ w ↔ c ≤ T)) → C.toNat = min T 254) :
    expoOfField a (search w) = expoOfCount a w C := by
  obtain ⟨T, hT, hs, hc⟩ := search_spec w
  have hCn := hC T hc
  have hCe : C = BitVec.ofNat 32 (min T 254) := by rw [← hCn]; simp
  have htop : (w = ⊤) ↔ T = 255 := by
    have h := hc 255 (by omega) (by omega)
    rw [show BitVec.ofNat 32 255 = 255#32 from rfl, pat_top] at h
    constructor
    · intro e; have := h.mp (by rw [e]); omega
    · intro e; exact top_le_iff.mp (h.mpr (by omega))
  unfold expoOfField expoOfCount
  congr 1
  have e1 := field_tests ⟨T, by omega⟩
  have e2 := count_test ⟨min T 254, by omega⟩
  dsimp only at e1 e2
  rw [hs, hCe, e1, e2, inf_bits, Ideal.cmpf_def]
  unfold Ideal.cmp
  by_cases h0 : T = 0
  · subst h0
    rw [if_pos (Or.inl rfl), if_pos (by omega)]
    by_cases hw : w = ⊤ <;> simp [hw, Scalar.select, IntOp.ori]
  · by_cases h255 : T = 255
    · subst h255
      rw [if_pos (Or.inr rfl), if_neg (by omega)]
      have hw := htop.mpr rfl
      simp [hw, Scalar.select, IntOp.ori]
    · have hw : ¬w = ⊤ := fun h => h255 (htop.mp h)
      rw [if_neg (by omega), if_neg (by omega), show min T 254 = T by omega]
      simp [hw, Scalar.select, IntOp.ori]

/-! ## The power of two -/

/-- Two to the exponent `e`, from its clamped exponent field. -/
def powField (e : BitVec 32) : EReal := pat (IntOp.addi (IntOp.minsi 128#32 (IntOp.maxsi 4294967169#32 e)) 127#32)

/-- Two to the exponent `e`, flushed to zero below the normal range and infinite above it. -/
def powExp (e : BitVec 32) : EReal :=
  Scalar.select (IntOp.cmpi .slt e 4294967170#32) (FloatOps.ofBits (F := Ideal) .f32 0x00000000#32)
    (Scalar.select (IntOp.cmpi .sgt e 127#32) (FloatOps.ofBits (F := Ideal) .f32 0x7F800000#32)
      (FloatOps.exp2 (F := Ideal) (φ := .f32) (FloatOps.sitofp (F := Ideal) .f32 e)))

/-- The exponent range that matters, and what the two sides compute of it. -/
theorem pow_bits : ∀ k : Fin 257,
    IntOp.addi (IntOp.minsi 128#32 (IntOp.maxsi 4294967169#32 (BitVec.ofNat 32 k.val - 128#32))) 127#32 = BitVec.ofNat 32 (k.val - 1)
    ∧ IntOp.cmpi .slt (BitVec.ofNat 32 k.val - 128#32) 4294967170#32 = (if k.val < 2 then 1#1 else 0#1)
    ∧ IntOp.cmpi .sgt (BitVec.ofNat 32 k.val - 128#32) 127#32 = (if k.val = 256 then 1#1 else 0#1)
    ∧ (BitVec.ofNat 32 k.val - 128#32).toInt = (k.val : ℤ) - 128 := by decide +kernel

/-- Between -128 and 128 the two powers agree. -/
theorem pow_eq (k : Fin 257) : powField (BitVec.ofNat 32 k.val - 128#32) = powExp (BitVec.ofNat 32 k.val - 128#32) := by
  obtain ⟨h1, h2, h3, h4⟩ := pow_bits k
  have hk := k.isLt
  unfold powField powExp
  rw [h1, h2, h3, inf_bits]
  by_cases hlo : k.val < 2
  · rw [if_pos hlo, show k.val - 1 = 0 by omega]
    show pat 0#32 = Ideal.ofBits .f32 0x00000000#32
    rw [pat_zero, Ideal.ofBits_zero_f32]
  · rw [if_neg hlo]
    by_cases hhi : k.val = 256
    · rw [if_pos hhi, hhi]
      exact pat_top
    · rw [if_neg hhi, pat_mid _ (by omega) (by omega)]
      show _ = FloatOps.exp2 (F := Ideal) (φ := .f32) (((((BitVec.ofNat 32 k.val - 128#32).toInt : ℤ) : ℝ) : EReal))
      rw [h4, exp2_int]
      congr 2
      omega

/-- An exponent found by the search, and its negation, lie in that range. -/
theorem expo_range (a w : EReal) :
    (∃ k : Fin 257, expoOfField a (search w) = BitVec.ofNat 32 k.val - 128#32)
    ∧ ∃ k : Fin 257, IntOp.subi 0#32 (expoOfField a (search w)) = BitVec.ofNat 32 k.val - 128#32 := by
  have key : ∀ T : Fin 256, IntOp.subi (BitVec.ofNat 32 (T.val + 1)) 126#32 = BitVec.ofNat 32 (T.val + 1 + 2) - 128#32
      ∧ (T.val ≤ 253 → IntOp.subi 0#32 (IntOp.subi (BitVec.ofNat 32 (T.val + 1)) 126#32) = BitVec.ofNat 32 (253 - T.val) - 128#32) := by
    decide +kernel
  have zero : (∃ k : Fin 257, 0#32 = BitVec.ofNat 32 k.val - 128#32)
      ∧ ∃ k : Fin 257, IntOp.subi 0#32 0#32 = BitVec.ofNat 32 k.val - 128#32 := ⟨⟨128, by decide⟩, ⟨128, by decide⟩⟩
  obtain ⟨T, hT, hs, -⟩ := search_spec w
  have e1 := field_tests ⟨T, by omega⟩
  dsimp only at e1
  rw [hs]
  unfold expoOfField
  rw [e1]
  unfold Scalar.select
  split
  · exact zero
  split
  · exact zero
  · rename_i h
    have h' : ¬(T = 0 ∨ T = 255) := fun h'' => h h''
    obtain ⟨k1, k2⟩ := key ⟨T - 1, by omega⟩
    dsimp only at k1 k2
    rw [show T - 1 + 1 = T by omega] at k1 k2
    exact ⟨⟨⟨T + 2, by omega⟩, k1⟩, ⟨⟨253 - (T - 1), by omega⟩, k2 (by omega)⟩⟩

/-- The scale and its inverse agree at such an exponent. -/
theorem scale_eq (a w : EReal) : powField (expoOfField a (search w)) = powExp (expoOfField a (search w)) := by
  obtain ⟨⟨k, hk⟩, -⟩ := expo_range a w
  rw [hk, pow_eq]
theorem inverse_eq (a w : EReal) :
    powField (IntOp.subi 0#32 (expoOfField a (search w))) = powExp (IntOp.subi 0#32 (expoOfField a (search w))) := by
  obtain ⟨-, ⟨k, hk⟩⟩ := expo_range a w
  rw [hk, pow_eq]

end Cert.Scale

end
-- ==== Proof.KernelRun.lean ====
module

public import proofs.«01_k».proof.Proof.Gen.KernelIdeal.Frame
public import proofs.«01_k».proof.Proof.Gen.KernelIdeal.Skeleton
public import Idealize.ShloMosaic.Lib.Pipeline.TableIdle
public import Idealize.ShloMosaic.Lib.Pipeline.Value
public import Idealize.ShloMosaic.Lib.VecWindow
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one run of the body computes -/

/-- The exponent `e` of each row's `max |x| / 448`, from the staged `x` block (the search over the exponent field). -/
def expo (x0 : Vec F S128x1x8192 .f32) : IVec S128x1 32 :=
  k0_pay13 (k0_pay7 x0) (k0_pay8 x0) (k0_pay9 x0) (k0_pay10 x0) (k0_pay11 x0) k0_pay12

/-- The same exponent clamped to `[-127, 128]`, the field's range. -/
def clampedExpo (x0 : Vec F S128x1x8192 .f32) : IVec S128x1 32 :=
  k0_pay14 (k0_pay7 x0) (k0_pay8 x0) (k0_pay9 x0) (k0_pay10 x0) (k0_pay11 x0) k0_pay12

/-- The quantised block the body stores. -/
def codesOf (x0 : Vec F S128x1x8192 .f32) : Vec F S128x8192 .fp8e4m3 := k0_pay2 (k0_pay6 x0) (expo x0)

/-- The column of scales the body keeps in its scratch buffer. -/
def scaleOf (x0 : Vec F S128x1x8192 .f32) : Vec F S128x1 .f32 := k0_pay3 (F := F) (clampedExpo x0) 127#32

/-- The row of scales the body stores. -/
def rowOf (x0 : Vec F S128x1x8192 .f32) : Vec F S1x128 .f32 := k0_pay4 (F := F) (clampedExpo x0) 127#32

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The staging memrefs at a point -/

/-- Each window's current staging memref at point `t`, spelled as the pipeline passes it (`bodyAt0`), and its wholeness. -/
abbrev ms0_0 (t : Fin cfg0.N) : Memref sig .tc .vmem S128x1x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x8192 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S128x1 .f32 := Memref.whole cc0_scratch0

/-- The launch's scoped rest with the scratch operand as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The body's two runs -/

/-- The block of `y` from equal operands. -/
theorem pay5_congr {v3 w3 : Vec F S128x8192 .fp8e4m3} {v5 w5 : Vec F S8192x512 .fp8e4m3} {v7 w7 : Vec F S128x1 .f32}
    {v10 w10 v14 w14 : Vec F S1x512 .f32} (h3 : v3 = w3) (h5 : v5 = w5) (h7 : v7 = w7) (h10 : v10 = w10) (h14 : v14 = w14) :
    k0_pay5 v3 v5 v7 v10 v14 = k0_pay5 w3 w5 w7 w10 w14 := by
  subst h3 h5 h7 h10 h14; rfl

/-- A load of a whole memref reads its contents. -/
theorem load_whole {sp : Space} {S : Shape} {e : EltTy} {M : Memref sig .tc sp S e} (h : M.IsWhole) {off : Fin S.rank → ℕ}
    (inb : ∀ a, off a + S.size a ≤ S.size a) (X : S.Idx → Elt F e) :
    M.view.readAt (Elt F) (Rect.unit off S.size inb).toLoadRect (h.unread X) = X :=
  (View.readAt_full _ _ _).trans (h.read_unread X)

/-- Both zero offsets. -/
theorem off2 : (![0, 0] : Fin 2 → ℕ) = fun _ => 0 := by funext a; fin_cases a <;> rfl
/-- All three zero offsets. -/
theorem off3 : (![0, 0, 0] : Fin 3 → ℕ) = fun _ => 0 := by funext a; fin_cases a <;> rfl

set_option maxHeartbeats 1000000 in
/-- The body at the first point: from the four staged inputs, it leaves the quantised block, the scales (as a row in its output, as a column in the scratch) and the first block of `y`. -/
theorem kernelRun_A (c : Dev nD) (i : grid0.Coords) (arg1 : Memref sig .tc .vmem S128x1x8192 .f32) (harg1 : arg1.IsWhole) (arg2 : Memref sig .tc .vmem S8192x512 .fp8e4m3) (harg2 : arg2.IsWhole) (arg3 : Memref sig .tc .vmem S1x512 .f32) (harg3 : arg3.IsWhole) (arg4 : Memref sig .tc .vmem S1x512 .f32) (harg4 : arg4.IsWhole) (arg5 : Memref sig .tc .vmem S128x1x512 .f32) (harg5 : arg5.IsWhole) (arg6 : Memref sig .tc .vmem S128x8192 .fp8e4m3) (harg6 : arg6.IsWhole) (arg7 : Memref sig .tc .vmem S1x128 .f32) (harg7 : arg7.IsWhole) (arg8 : Memref sig .tc .vmem S128x1 .f32) (harg8 : arg8.IsWhole) (hc0 : cond0_0 i)
    (x0 : Vec F S128x1x8192 .f32) (x1 : Vec F S8192x512 .fp8e4m3) (x2 : Vec F S1x512 .f32) (x3 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay5 (codesOf x0) x1 (scaleOf x0) x2 x3) ∗ owns (c : Thread nD τ) arg6 fullShare (codesOf x0) ∗ owns (c : Thread nD τ) arg7 fullShare (rowOf x0) ∗ owns (c : Thread nD τ) arg8 fullShare (scaleOf x0)) -∗ K ⟨⟩))
          ⊢ wp frame (wpE (defs₀ (F := F)) Variants.none c none) E (cc0__body i arg1 harg1 arg2 harg2 arg3 harg3 arg4 harg4 arg5 harg5 arg6 harg6 arg7 harg7 arg8 harg8) K := by
    intro E K
    simp only [cc0__body_eq_skeleton]; unfold cc0__body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_full _ _ _ _ _).trans ?_
      exact pay5_congr ((View.readCov_full _ _ _ _ _).trans (congrArg codesOf (load_whole harg1 _ x0))) (load_whole harg2 _ x1)
        ((View.readCov_full _ _ _ _ _).trans (congrArg scaleOf (load_whole harg1 _ x0))) (load_whole harg3 _ x2) (load_whole harg4 _ x3)
    isplitl [H5]
    · iexists _; isplitr; swap; · iexact H5
      ipureintro
      refine (View.read_writes_full _ _ _ _ _).trans ?_
      exact congrArg codesOf (load_whole harg1 _ x0)
    isplitl [H6]
    · iexists _; isplitr; swap; · iexact H6
      ipureintro
      refine (View.read_writes_full _ _ _ _ _).trans ?_
      exact congrArg rowOf (load_whole harg1 _ x0)
    iexists _; isplitr; swap; · iexact HS0
    ipureintro
    refine (View.read_writes_full _ _ _ _ _).trans ?_
    exact congrArg scaleOf (load_whole harg1 _ x0)

set_option maxHeartbeats 1000000 in
/-- The body at a later point: it reads the quantised block and the column of scales the first point left, leaves both as they are, and stores this point's block of `y`. -/
theorem kernelRun_B (c : Dev nD) (i : grid0.Coords) (arg1 : Memref sig .tc .vmem S128x1x8192 .f32) (harg1 : arg1.IsWhole) (arg2 : Memref sig .tc .vmem S8192x512 .fp8e4m3) (harg2 : arg2.IsWhole) (arg3 : Memref sig .tc .vmem S1x512 .f32) (harg3 : arg3.IsWhole) (arg4 : Memref sig .tc .vmem S1x512 .f32) (harg4 : arg4.IsWhole) (arg5 : Memref sig .tc .vmem S128x1x512 .f32) (harg5 : arg5.IsWhole) (arg6 : Memref sig .tc .vmem S128x8192 .fp8e4m3) (harg6 : arg6.IsWhole) (arg7 : Memref sig .tc .vmem S1x128 .f32) (harg7 : arg7.IsWhole) (arg8 : Memref sig .tc .vmem S128x1 .f32) (harg8 : arg8.IsWhole) (hc0 : ¬cond0_0 i)
    (x0 : Vec F S128x1x8192 .f32) (x1 : Vec F S8192x512 .fp8e4m3) (x2 : Vec F S1x512 .f32) (x3 : Vec F S1x512 .f32)
    (xc : Vec F S128x8192 .fp8e4m3) (xr : Vec F S1x128 .f32) (xs : Vec F S128x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xc ∗ owns (c : Thread nD τ) arg7 fullShare xr ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay5 xc x1 xs x2 x3) ∗ owns (c : Thread nD τ) arg6 fullShare xc ∗ owns (c : Thread nD τ) arg7 fullShare xr ∗ owns (c : Thread nD τ) arg8 fullShare xs) -∗ K ⟨⟩))
          ⊢ wp frame (wpE (defs₀ (F := F)) Variants.none c none) E (cc0__body i arg1 harg1 arg2 harg2 arg3 harg3 arg4 harg4 arg5 harg5 arg6 harg6 arg7 harg7 arg8 harg8) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_full _ _ _ _ _).trans ?_
      exact pay5_congr (load_whole harg6 _ xc) (load_whole harg2 _ x1) (load_whole harg8 _ xs) (load_whole harg3 _ x2) (load_whole harg4 _ x3)
    isplitl [H5]
    · iexists _; isplitr; · ipureintro; exact harg6.read_unread _
      iexact H5
    isplitl [H6]
    · iexists _; isplitr; · ipureintro; exact harg7.read_unread _
      iexact H6
    iexists _; isplitr; · ipureintro; exact harg8.read_unread _
    iexact HS0

end Cert.KernelIdeal.Run

end
-- ==== Proof.KernelData.lean ====
module

public import proofs.«01_k».proof.Proof.KernelRun

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The first grid point. -/
abbrev t0 : Fin cfg0.N := (t0_0 : Fin grid0.N)

/-- The whole of `x`, as the first point stages it. -/
def xBlock (c : Dev nD) : Vec F S128x1x8192 .f32 := iblk m c 0 t0

/-- The invariant before point `n`: the scratch buffer holds the column of scales once the first point has run. -/
def Phi (c : Dev nD) (n : ℕ) : sProp 𝕄 :=
  iprop(iprop(∃ a, ⌜n ≠ 0 → a = scaleOf (xBlock m c)⌝ ∗ owns (c : Thread nD τ) scM0_0 fullShare a) ∗ (∃ r, prngReg c r))

/-- The proof data: the arrays as the region finds them; after the body at point `t` each input's buffer at its block, window
    4's at that point's block of `y`, windows 5 and 6 at the quantised block and the row of scales (which the first point
    stores and the later ones leave). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay5 (codesOf (xBlock m c)) (iblk m c 1 t) (scaleOf (xBlock m c)) (iblk m c 2 t) (iblk m c 3 t)
    | ⟨5, _⟩ => codesOf (xBlock m c)
    | ⟨6, _⟩ => rowOf (xBlock m c)
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = k0_pay5 (codesOf (xBlock m c)) (iblk m c 1 t) (scaleOf (xBlock m c)) (iblk m c 2 t) (iblk m c 3 t) := by dsimp only [dats]
theorem after0_5 (c : Dev nD) (t : Fin cfg0.N) : (dats m 0 c).after 5 t = codesOf (xBlock m c) := by dsimp only [dats]
theorem after0_6 (c : Dev nD) (t : Fin cfg0.N) : (dats m 0 c).after 6 t = rowOf (xBlock m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Windows 5 and 6 are idle at every point but the first. -/
theorem idle_5 (t : Fin cfg0.N) (ht : t.val % 16 ≠ 0) : cfg0.idle 5 (grid0.coords t) = true := by
  show (!(k0_cond1 (grid0.coords t) == 1#1)) = true
  have h : ¬cond0_0 (grid0.coords t) := fun h => ht ((hcond0_0 t).mp h)
  simpa using h
theorem idle_6 (t : Fin cfg0.N) (ht : t.val % 16 ≠ 0) : cfg0.idle 6 (grid0.coords t) = true := idle_5 t ht
/-- They are not idle at the first. -/
theorem live_5 (t : Fin cfg0.N) (ht : t.val % 16 = 0) : cfg0.idle 5 (grid0.coords t) = false := by
  show (!(k0_cond1 (grid0.coords t) == 1#1)) = false
  have h : cond0_0 (grid0.coords t) := (hcond0_0 t).mpr ht
  simpa using h
theorem live_6 (t : Fin cfg0.N) (ht : t.val % 16 = 0) : cfg0.idle 6 (grid0.coords t) = false := live_5 t ht
theorem live_4 (t : Fin cfg0.N) : cfg0.idle 4 (grid0.coords t) = false := rfl

/-- Neither has been written back before point `t`, so past the first point its buffer is not fresh. -/
theorem fresh_5 (n : ℕ) (hn : n ≤ cfg0.N) (h0 : n < 16) : cfg0.fresh 5 n = decide (n = 0) := by
  refine (cfg0.fresh_tab 5 (fun k => decide (k = 0 ∨ 16 ≤ k)) rfl (fun t => ?_) n hn).trans ?_
  · have hN : t.val < 16 := lt_of_lt_of_eq t.isLt (show cfg0.N = 16 from N_0)
    by_cases h : t.val % 16 = 0
    · rw [show cfg0.idle 5 (cfg0.grid.coords t) = false from live_5 t h]
      rcases hf : (cfg0.win 5).flush t with _ | _
      · have : ¬t.val % 16 = 15 := fun h' => by rw [(flush0_5 t).mpr h'] at hf; cases hf
        simp only [Bool.false_and, Bool.or_false, decide_eq_false_iff_not]; omega
      · have := (flush0_5 t).mp hf
        omega
    · rw [show cfg0.idle 5 (cfg0.grid.coords t) = true from idle_5 t h]
      rcases hf : (cfg0.win 5).flush t with _ | _
      · have : ¬t.val % 16 = 15 := fun h' => by rw [(flush0_5 t).mpr h'] at hf; cases hf
        simp only [Bool.true_and, Bool.false_or, decide_eq_decide]; omega
      · have := (flush0_5 t).mp hf
        simp only [Bool.true_or, decide_eq_true_eq]; omega
  · simp only [decide_eq_decide]; omega
theorem fresh_6 (n : ℕ) (hn : n ≤ cfg0.N) (h0 : n < 16) : cfg0.fresh 6 n = decide (n = 0) := by
  refine (cfg0.fresh_tab 6 (fun k => decide (k = 0 ∨ 16 ≤ k)) rfl (fun t => ?_) n hn).trans ?_
  · have hN : t.val < 16 := lt_of_lt_of_eq t.isLt (show cfg0.N = 16 from N_0)
    by_cases h : t.val % 16 = 0
    · rw [show cfg0.idle 6 (cfg0.grid.coords t) = false from live_6 t h]
      rcases hf : (cfg0.win 6).flush t with _ | _
      · have : ¬t.val % 16 = 15 := fun h' => by rw [(flush0_6 t).mpr h'] at hf; cases hf
        simp only [Bool.false_and, Bool.or_false, decide_eq_false_iff_not]; omega
      · have := (flush0_6 t).mp hf
        omega
    · rw [show cfg0.idle 6 (cfg0.grid.coords t) = true from idle_6 t h]
      rcases hf : (cfg0.win 6).flush t with _ | _
      · have : ¬t.val % 16 = 15 := fun h' => by rw [(flush0_6 t).mpr h'] at hf; cases hf
        simp only [Bool.true_and, Bool.false_or, decide_eq_decide]; omega
      · have := (flush0_6 t).mp hf
        simp only [Bool.true_or, decide_eq_true_eq]; omega
  · simp only [decide_eq_decide]; omega

/-- Past the first point, window 5's buffer holds the quantised block. -/
theorem before0_5 (c : Dev nD) (t : Fin cfg0.N) (ht : t.val ≠ 0) (d) : (dats m 0 c).before 5 t d = codesOf (xBlock m c) := by
  have hN : t.val < 16 := lt_of_lt_of_eq t.isLt (show cfg0.N = 16 from N_0)
  rw [(dats m 0 c).before_out_traj 5 rfl (fun _ _ => rfl) (fun t _ _ _ => by rw [after0_5, after0_5]) t.val t rfl d,
    fresh_5 t.val (le_of_lt t.isLt) hN, decide_eq_false ht, if_neg Bool.false_ne_true, after0_5]
/-- Past the first point, window 6's buffer holds the row of scales. -/
theorem before0_6 (c : Dev nD) (t : Fin cfg0.N) (ht : t.val ≠ 0) (d) : (dats m 0 c).before 6 t d = rowOf (xBlock m c) := by
  have hN : t.val < 16 := lt_of_lt_of_eq t.isLt (show cfg0.N = 16 from N_0)
  rw [(dats m 0 c).before_out_traj 6 rfl (fun _ _ => rfl) (fun t _ _ _ => by rw [after0_6, after0_6]) t.val t rfl d,
    fresh_6 t.val (le_of_lt t.isLt) hN, decide_eq_false ht, if_neg Bool.false_ne_true, after0_6]

/-- What the post asks of windows 5 and 6 at a later point, written back there or not: the contents the first point left. -/
theorem leaves_5 (c : Dev nD) (t : Fin cfg0.N) (ht : t.val ≠ 0) :
    owns (c : Thread nD τ) (ms0_5 t) fullShare (codesOf (xBlock m c)) ⊢ ((dats m 0 c).leavesExact 5 t : sProp 𝕄) := by
  have hN : t.val < 16 := lt_of_lt_of_eq t.isLt (show cfg0.N = 16 from N_0)
  unfold Dat.leavesExact
  rw [show cfg0.idle 5 (cfg0.grid.coords t) = true from idle_5 t (by omega)]
  rcases hf : (cfg0.win 5).flush t with _ | _
  · show _ ⊢ (iprop(∃ d, owns (c : Thread nD τ) (ms0_5 t) fullShare ((dats m 0 c).before 5 t d)) : sProp 𝕄)
    iintro H
    iexists codesOf (xBlock m c)
    rw [before0_5 m c t ht]
    iexact H
  · show _ ⊢ (owns (c : Thread nD τ) (ms0_5 t) fullShare ((dats m 0 c).after 5 t) : sProp 𝕄)
    rw [after0_5]
theorem leaves_6 (c : Dev nD) (t : Fin cfg0.N) (ht : t.val ≠ 0) :
    owns (c : Thread nD τ) (ms0_6 t) fullShare (rowOf (xBlock m c)) ⊢ ((dats m 0 c).leavesExact 6 t : sProp 𝕄) := by
  have hN : t.val < 16 := lt_of_lt_of_eq t.isLt (show cfg0.N = 16 from N_0)
  unfold Dat.leavesExact
  rw [show cfg0.idle 6 (cfg0.grid.coords t) = true from idle_6 t (by omega)]
  rcases hf : (cfg0.win 6).flush t with _ | _
  · show _ ⊢ (iprop(∃ d, owns (c : Thread nD τ) (ms0_6 t) fullShare ((dats m 0 c).before 6 t d)) : sProp 𝕄)
    iintro H
    iexists rowOf (xBlock m c)
    rw [before0_6 m c t ht]
    iexact H
  · show _ ⊢ (owns (c : Thread nD τ) (ms0_6 t) fullShare ((dats m 0 c).after 6 t) : sProp 𝕄)
    rw [after0_6]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body's triple at any point: the first point's run, or a later point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  unfold Phi
  have hN : t.val < 16 := lt_of_lt_of_eq t.isLt (show cfg0.N = 16 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [live_4 t], after0_4]
  by_cases h0 : t.val % 16 = 0
  · obtain rfl : t = t0 := Fin.ext (by show t.val = 0; omega)
    rw [show (dats m 0 c).leavesExact 5 t0 = owns (c : Thread nD τ) (ms0_5 t0) fullShare ((dats m 0 c).after 5 t0) from by
        unfold Dat.leavesExact; rw [show cfg0.idle 5 (cfg0.grid.coords t0) = false from live_5 t0 h0], after0_5]
    rw [show (dats m 0 c).leavesExact 6 t0 = owns (c : Thread nD τ) (ms0_6 t0) fullShare ((dats m 0 c).after 6 t0) from by
        unfold Dat.leavesExact; rw [show cfg0.idle 6 (cfg0.grid.coords t0) = false from live_6 t0 h0], after0_6]
    iintro ⟨⟨⟨%a, -, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun_A c (grid0.coords t0) _ _ _ _ _ _ _ _ _ _ _ _ _ _ _ _ ((hcond0_0 t0).mpr h0) (iblk m c 0 t0) (iblk m c 1 t0) (iblk m c 2 t0) (iblk m c 3 t0)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexists _; iexact HS0
    iintro ⟨H0, H1, H2, H3, H4, H5, H6, HS0⟩
    isplitl [HS0 Hg]
    · isplitl [HS0]
      · iexists scaleOf (xBlock m c)
        isplitr; · ipureintro; exact fun _ => rfl
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have ht : t.val ≠ 0 := by omega
    rw [exists_held ht (scaleOf (xBlock m c)) (fun a => owns (c : Thread nD τ) scM0_0 fullShare a)]
    simp only [before0_5 m c t ht, before0_6 m c t ht]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((kernelRun_B c (grid0.coords t) _ _ _ _ _ _ _ _ _ _ _ _ _ _ _ _ (fun h => h0 ((hcond0_0 t).mp h)) (iblk m c 0 t) (iblk m c 1 t) (iblk m c 2 t) (iblk m c 3 t)
      (codesOf (xBlock m c)) (rowOf (xBlock m c)) (scaleOf (xBlock m c))) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    iintro ⟨H0, H1, H2, H3, H4, H5, H6, HS0⟩
    isplitl [HS0 Hg]
    · isplitl [HS0]
      · iexists scaleOf (xBlock m c)
        isplitr; · ipureintro; exact fun _ => rfl
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves_5 m c t ht); iexact H5
    iapply (leaves_6 m c t ht); iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The launch deals the invariant its start: the scratch buffer at anything; -/
theorem hin (c : Dev nD) : (Pipeline.ΦA spec0 c : sProp 𝕄) ⊢ (dats m 0 c).Φ 0 := by
  rw [PhiA0_eq, show (dats m 0 c).Φ 0 = Phi m c 0 from rfl]
  unfold Phi
  iintro ⟨⟨%d, H⟩, Hg⟩
  isplitl [H]
  · iexists d
    isplitr; · ipureintro; exact fun h => absurd rfl h
    iexact H
  iexact Hg
/-- and at the end the contents are forgotten. -/
theorem hout (c : Dev nD) : (dats m 0 c).Φ (Fin.last cfg0.N) ⊢ (Pipeline.ΦA spec0 c : sProp 𝕄) := by
  rw [PhiA0_eq, show (dats m 0 c).Φ (Fin.last cfg0.N) = Phi m c cfg0.N from rfl]
  unfold Phi
  iintro ⟨⟨%a, -, H⟩, Hg⟩
  isplitl [H]
  · iexists a
    iexact H
  iexact Hg

set_option backward.isDefEq.respectTransparency.types false in
set_option maxHeartbeats 800000 in
/-- The whole run: every array of the pipeline and every other buffer named after it, no semaphore pending. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (hbody := fun c => (body_obligation m c).loose) (hshare := fun c => (dats m 0 c).share_full fun _ => rfl) (howed := fun _ _ => rfl) (V₀ := V0 m) (opss := [hostOps1])
    (hsub := sfx_sub) (hfresh := sfx_fresh) (hkeep := sfx_keeps) (hmain := hmain m Variants.none) (hA := A_eq m) (hin := hin m) (hout := hout m)
    (Q' := fun r => Pipeline.FramePost cfgs (dats m) 0 (Pipeline.afterTail₀ cfgs (dats m) 0 (V0 m) [hostOps1]) r ∧ r.2.sem = fun _ => 0)
    (hQ' := fun _ h => h)

end Cert.KernelIdeal.Run

end
-- ==== Proof.KernelValue.lean ====
module

public import proofs.«01_k».proof.Proof.KernelData
public import Idealize.ShloMosaic.Lib.Pipeline.ValueKit
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL.Sem
open Idealize.ShloMosaic.Pipeline (Dat Cfg Window)

/-! ## What the kernel's three result arrays hold, from its arguments -/

section Generic
variable {F : FTy → Type} [FloatOps F]
variable (m : (ℓ : Loc nD τ sig) → Buf (Elt F) ℓ)

theorem idx0 : ∀ t : Fin cfg0.N, win0_0.index t = ![0, 0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, 0, t.val] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

/-- The staged block of `x` is the whole of `x`. -/
theorem xBlock_eq (c : Dev nD) : xBlock m c = m ((c : Thread nD τ).loc main_arg0) := by
  rw [← V_main_arg0 m c]
  funext y
  unfold xBlock
  blk_simp [iblk]
  congr 1
  blk_ext [idx0]

theorem arr5 (c : Dev nD) : (dats m 0 c).arrAt 5 cfg0.N = codesOf (m ((c : Thread nD τ).loc main_arg0)) := by
  refine (dats m 0 c).arrAt_eq_of_covers 5 _ (by decide +kernel) fun t hf y => ?_
  blk_simp
  rw [after0_5, xBlock_eq]
  congr 1
  blk_ext [idx5]

theorem arr6 (c : Dev nD) : (dats m 0 c).arrAt 6 cfg0.N = rowOf (m ((c : Thread nD τ).loc main_arg0)) := by
  refine (dats m 0 c).arrAt_eq_of_covers 6 _ (by decide +kernel) fun t hf y => ?_
  blk_simp
  rw [after0_6, xBlock_eq]
  congr 1
  blk_ext [idx6]

/-- A vector made a row. -/
theorem row_cast {α : Type} (x : S8192.Idx → α) (k : Fin 8192) : shapeCast S1x8192 x shapeCasts_S8192_S1x8192 (ix2 0 k) = x (ix1 k) := by
  pointwise

/-- The row scales and the bias row as the region finds them: the arguments, as one row. -/
theorem V_v0 (c : Dev nD) (k : Fin 8192) : V m c main_v0 (ix2 0 k) = m ((c : Thread nD τ).loc main_arg2) (ix1 k) := by
  show StableHlo.after (List.flatten [hostOps0]) (fun b => m (c, b)) (Proc.devRef .tc main_v0) (ix2 0 k) = _
  simp only [hostOps0, List.flatten_cons, List.flatten_nil, List.append_nil]
  after_results
  exact row_cast (m ((c : Thread nD τ).loc main_arg2)) k

theorem V_v1 (c : Dev nD) (k : Fin 8192) : V m c main_v1 (ix2 0 k) = m ((c : Thread nD τ).loc main_arg3) (ix1 k) := by
  show StableHlo.after (List.flatten [hostOps0]) (fun b => m (c, b)) (Proc.devRef .tc main_v1) (ix2 0 k) = _
  simp only [hostOps0, List.flatten_cons, List.flatten_nil, List.append_nil]
  after_results
  exact row_cast (m ((c : Thread nD τ).loc main_arg3)) k

/-- The blocks of the weights, of the row scales and of the bias at point `t`: their columns from `512 * t` on. -/
theorem iblk1_at (c : Dev nD) (t : Fin cfg0.N) (k : Fin 8192) (l : Fin 512) (h : 512 * t.val + l.val < 8192) :
    iblk m c 1 t (ix2 k l) = m ((c : Thread nD τ).loc main_arg1) (ix2 k ⟨512 * t.val + l.val, h⟩) := by
  rw [← V_main_arg1 m c]
  blk_simp [iblk]
  congr 1
  blk_ext [idx1]
theorem iblk2_at (c : Dev nD) (t : Fin cfg0.N) (l : Fin 512) (h : 512 * t.val + l.val < 8192) :
    iblk m c 2 t (ix2 0 l) = m ((c : Thread nD τ).loc main_arg2) (ix1 ⟨512 * t.val + l.val, h⟩) := by
  rw [← V_v0 m c]
  blk_simp [iblk]
  congr 1
  blk_ext [idx2]
theorem iblk3_at (c : Dev nD) (t : Fin cfg0.N) (l : Fin 512) (h : 512 * t.val + l.val < 8192) :
    iblk m c 3 t (ix2 0 l) = m ((c : Thread nD τ).loc main_arg3) (ix1 ⟨512 * t.val + l.val, h⟩) := by
  rw [← V_v1 m c]
  blk_simp [iblk]
  congr 1
  blk_ext [idx3]

/-- The two reshaped results, as the lines after the call leave them. -/
theorem tail_v3 (c : Dev nD) (r : Fin 128) (k : Fin 8192) :
    Pipeline.afterTail₀ cfgs (dats m) 0 (V0 m) [hostOps1] c main_v3 (ix3 r 0 k)
      = codesOf (m ((c : Thread nD τ).loc main_arg0)) (ix2 r k) := by
  have h5 := (Pipeline.withArrays_arr spec0 launch0.win.arr_inj c (V0 m c) (fun w => (dats m 0 c).arrAt w cfg0.N) 5).trans (arr5 m c)
  unfold Pipeline.afterTail₀ hostOps1
  simp only [List.flatten_cons, List.flatten_nil, List.append_nil]
  after_results
  rw [← h5]
  show shapeCast S128x1x8192 (Pipeline.withArrays spec0 c (V0 m c) (fun w => (dats m 0 c).arrAt w cfg0.N) (Proc.tc.devRef main_v2_1))
    shapeCasts_S128x8192_S128x1x8192 (ix3 r 0 k) = _
  pointwise

theorem tail_v4 (c : Dev nD) (r : Fin 128) :
    Pipeline.afterTail₀ cfgs (dats m) 0 (V0 m) [hostOps1] c main_v4 (ix3 r 0 0)
      = rowOf (m ((c : Thread nD τ).loc main_arg0)) (ix2 0 r) := by
  have h6 := (Pipeline.withArrays_arr spec0 launch0.win.arr_inj c (V0 m c) (fun w => (dats m 0 c).arrAt w cfg0.N) 6).trans (arr6 m c)
  unfold Pipeline.afterTail₀ hostOps1
  simp only [List.flatten_cons, List.flatten_nil, List.append_nil]
  after_results
  rw [← h6]
  show shapeCast S128x1x1 (Pipeline.withArrays spec0 c (V0 m c) (fun w => (dats m 0 c).arrAt w cfg0.N) (Proc.tc.devRef main_v2_2))
    shapeCasts_S1x128_S128x1x1 (ix3 r 0 0) = _
  pointwise

end Generic

/-- An entry of `y`. -/
def yAt (q : FVec Ideal S128x8192 .fp8e4m3) (s : FVec Ideal S128x1 .f32) (w : FVec Ideal S8192x8192 .fp8e4m3)
    (ws b : FVec Ideal S8192 .f32) (r : Fin 128) (l : Fin 8192) : EReal :=
  (∑ k : Fin 8192, q (ix2 r k) * w (ix2 k l)) * s (ix2 r 0) * ws (ix1 l) + b (ix1 l)

/-- The whole of `y`. -/
def yArr (q : FVec Ideal S128x8192 .fp8e4m3) (s : FVec Ideal S128x1 .f32) (w : FVec Ideal S8192x8192 .fp8e4m3)
    (ws b : FVec Ideal S8192 .f32) : FVec Ideal S128x1x8192 .f32 := fun i => yAt q s w ws b (i 0) (i 2)

theorem pay5_at (q : FVec Ideal S128x8192 .fp8e4m3) (wb : FVec Ideal S8192x512 .fp8e4m3) (s : FVec Ideal S128x1 .f32)
   (ws b : FVec Ideal S1x512 .f32) (r : Fin 128) (l : Fin 512) :
   k0_pay5 (F := Ideal) q wb s ws b (ix3 r 0 l) = ((∑ k : Fin 8192, q (ix2 r k) * wb (ix2 k l)) * s (ix2 r 0) * ws (ix2 0 l) + b (ix2 0 l) : EReal) := by
  unfold k0_pay5
  pointwise

/-- The row of scales is the column of scales: of each column of the diagonal matrix one entry is left. -/
theorem rowOf_at (x : FVec Ideal S128x1x8192 .f32) (r : Fin 128) : rowOf (F := Ideal) x (ix2 0 r) = scaleOf (F := Ideal) x (ix2 r 0) := by
  unfold rowOf scaleOf k0_pay3 k0_pay4
  generalize k0_pay1 (F := Ideal) (clampedExpo (F := Ideal) x) 127#32 = s
  pointwise
  rw [Finset.sum_eq_single r]
  · simp [Scalar.select, IntOp.cmpi]
  · intro k _ hk
    have h : ¬BitVec.ofNat 32 k.val = BitVec.ofNat 32 r.val := fun h => hk (Fin.ext (by
      have h' := congrArg BitVec.toNat h
      have := k.isLt
      have := r.isLt
      simp only [BitVec.toNat_ofNat] at h'
      omega))
    have h2 : (BitVec.ofNat 32 k.val == BitVec.ofNat 32 r.val) = false := beq_eq_false_iff_ne.mpr h
    simp [Scalar.select, IntOp.cmpi, h2]
  · intro h
    exact absurd (Finset.mem_univ r) h

variable (m : (ℓ : Loc nD τ sig) → Buf (Elt Ideal) ℓ)

/-- The kernel's `y`, all of its blocks together. -/
theorem arr4 (c : Dev nD) : (dats m 0 c).arrAt 4 cfg0.N = yArr (codesOf (m ((c : Thread nD τ).loc main_arg0)))
    (scaleOf (m ((c : Thread nD τ).loc main_arg0))) (m ((c : Thread nD τ).loc main_arg1)) (m ((c : Thread nD τ).loc main_arg2))
    (m ((c : Thread nD τ).loc main_arg3)) := by
  refine (dats m 0 c).arrAt_eq_of_covers 4 _ (by decide +kernel) fun t hf y => ?_
  blk_simp
  rw [after0_4, xBlock_eq]
  obtain ⟨r, l, rfl⟩ : ∃ (r : Fin 128) (l : Fin 512), y = ix3 r 0 l := ⟨y 0, y 2, by
    funext a; fin_cases a
    · rfl
    · exact Fin.ext (by have := (y 1).isLt; show (y 1).val = 0; change (y 1).val < 1 at this; omega)
    · rfl⟩
  have hl := l.isLt
  have ht : t.val < 16 := t.isLt
  have h : 512 * t.val + l.val < 8192 := by omega
  rw [pay5_at, iblk2_at m c t l h, iblk3_at m c t l h]
  simp only [iblk1_at m c t _ l h]
  have e0 : (win0_4.blk t).view.emb (ix3 r 0 l) 0 = r := by
    apply Fin.ext; blk_simp [idx4]
  have e2 : (win0_4.blk t).view.emb (ix3 r 0 l) 2 = ⟨512 * t.val + l.val, h⟩ := by
    apply Fin.ext; blk_simp [idx4]; simp; omega
  show _ = yAt _ _ _ _ _ ((win0_4.blk t).view.emb (ix3 r 0 l) 0) ((win0_4.blk t).view.emb (ix3 r 0 l) 2)
  rw [e0, e2]
  rfl

end Cert.KernelIdeal.Run

end
-- ==== Proof.RefValue.lean ====
module

public import proofs.«01_k».proof.Proof.Gen.ReferenceIdeal.Frame
public import proofs.«01_k».proof.Proof.KernelValue
public import Idealize.ShloMosaic.Lib.Pipeline.ValueKit
public import Idealize.ShloMosaic.Lib.Pointwise

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL.Sem
open Idealize.ShloMosaic.Pipeline (Dat Cfg Window)

/-! ## What the reference's three result arrays hold, from its arguments -/

section Generic
variable {F : FTy → Type} [FloatOps F]
variable (m : (ℓ : Loc nD τ sig) → Buf (Elt F) ℓ)

/-- The quantised block and the column of scales. -/
def codesOf (x : Vec F S128x1x8192 .f32) : FVec F S128x8192 .fp8e4m3 := k0_pay6 (k0_pay1 x) (k0_pay2 x)
def scaleOf (x : Vec F S128x1x8192 .f32) : FVec F S128x1 .f32 := k0_pay5 (k0_pay3 x) (k0_pay4 x) (Scalar.ofBits .f32 0x00000000#32)

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)

theorem iblk0_eq (c : Dev nD) (t : Fin cfg0.N) : iblk m c 0 t = m ((c : Thread nD τ).loc main_arg0) := by
  rw [← V_main_arg0 m c]
  funext y
  blk_simp [iblk]
  congr 1
  blk_ext [idx0]
theorem iblk1_eq (c : Dev nD) (t : Fin cfg0.N) : iblk m c 1 t = m ((c : Thread nD τ).loc main_arg1) := by
  rw [← V_main_arg1 m c]
  funext y
  blk_simp [iblk]
  congr 1
  blk_ext [idx1]

/-- A vector made a row. -/
theorem row_cast {α : Type} (x : S8192.Idx → α) (k : Fin 8192) : shapeCast S1x8192 x shapeCasts_S8192_S1x8192 (ix2 0 k) = x (ix1 k) := by
  pointwise

theorem V_v0 (c : Dev nD) (k : Fin 8192) : V m c main_v0 (ix2 0 k) = m ((c : Thread nD τ).loc main_arg2) (ix1 k) := by
  show StableHlo.after hostOps0 (fun b => m (c, b)) (Proc.devRef .tc main_v0) (ix2 0 k) = _
  simp only [hostOps0]
  after_results
  exact row_cast (m ((c : Thread nD τ).loc main_arg2)) k
theorem V_v1 (c : Dev nD) (k : Fin 8192) : V m c main_v1 (ix2 0 k) = m ((c : Thread nD τ).loc main_arg3) (ix1 k) := by
  show StableHlo.after hostOps0 (fun b => m (c, b)) (Proc.devRef .tc main_v1) (ix2 0 k) = _
  simp only [hostOps0]
  after_results
  exact row_cast (m ((c : Thread nD τ).loc main_arg3)) k
theorem iblk2_at (c : Dev nD) (t : Fin cfg0.N) (k : Fin 8192) : iblk m c 2 t (ix2 0 k) = m ((c : Thread nD τ).loc main_arg2) (ix1 k) := by
  rw [← V_v0 m c]
  blk_simp [iblk]
  congr 1
  blk_ext [idx2]
theorem iblk3_at (c : Dev nD) (t : Fin cfg0.N) (k : Fin 8192) : iblk m c 3 t (ix2 0 k) = m ((c : Thread nD τ).loc main_arg3) (ix1 k) := by
  rw [← V_v1 m c]
  blk_simp [iblk]
  congr 1
  blk_ext [idx3]

theorem emb4 (t : Fin cfg0.N) (y : S128x1x8192.Idx) : (win0_4.blk t).view.emb y = y := by blk_ext [idx4]
theorem emb5 (t : Fin cfg0.N) (y : S128x1x8192.Idx) : (win0_5.blk t).view.emb y = y := by blk_ext [idx5]
theorem emb6 (t : Fin cfg0.N) (y : S128x1x1.Idx) : (win0_6.blk t).view.emb y = y := by blk_ext [idx6]

theorem ld0 (x : Vec F S128x1x8192 .f32) : View.ld x r0_0 = x := View.ld_unit_zero (by funext a; fin_cases a <;> rfl) _ _
theorem ld1 (x : Vec F S8192x8192 .fp8e4m3) : View.ld x r0_1 = x := View.ld_unit_zero (by funext a; fin_cases a <;> rfl) _ _
theorem ld2 (x : Vec F S1x8192 .f32) : View.ld x r0_2 = x := View.ld_unit_zero (by funext a; fin_cases a <;> rfl) _ _

theorem arr5 (c : Dev nD) : (dats m 0 c).arrAt 5 cfg0.N
    = shapeCast S128x1x8192 (codesOf (m ((c : Thread nD τ).loc main_arg0))) shapeCasts_S128x8192_S128x1x8192 := by
  refine (dats m 0 c).arrAt_eq_of_covers 5 _ (by decide +kernel) fun t hf y => ?_
  refine Eq.trans ?_ (congrArg _ (emb5 t y).symm)
  blk_simp
  rw [after0_5]
  unfold out0_5
  frame_out
  unfold k0_pay10 k0_pay11 k0_pay8 codesOf
  rw [ld0, iblk0_eq]

theorem arr6 (c : Dev nD) : (dats m 0 c).arrAt 6 cfg0.N
    = shapeCast S128x1x1 (scaleOf (m ((c : Thread nD τ).loc main_arg0))) shapeCasts_S128x1_S128x1x1 := by
  refine (dats m 0 c).arrAt_eq_of_covers 6 _ (by decide +kernel) fun t hf y => ?_
  refine Eq.trans ?_ (congrArg _ (emb6 t y).symm)
  blk_simp
  rw [after0_6]
  unfold out0_6
  frame_out
  unfold k0_pay12 k0_pay13 k0_pay9 scaleOf
  rw [ld0, iblk0_eq]

end Generic

theorem pay7_at (x : Vec Ideal S128x1x8192 .f32) (wb : FVec Ideal S8192x8192 .fp8e4m3) (ws b : FVec Ideal S1x8192 .f32) (r : Fin 128) (l : Fin 8192) :
   k0_pay7 (F := Ideal) (k0_pay1 x) (k0_pay2 x) (k0_pay3 x) (k0_pay4 x) (Scalar.ofBits .f32 0x00000000#32) wb ws b (ix3 r 0 l)
     = ((∑ k : Fin 8192, codesOf (F := Ideal) x (ix2 r k) * wb (ix2 k l)) * scaleOf (F := Ideal) x (ix2 r 0) * ws (ix2 0 l) + b (ix2 0 l) : EReal) := by
  unfold k0_pay7
  rw [show k0_pay6 (F := Ideal) (k0_pay1 x) (k0_pay2 x) = codesOf (F := Ideal) x from rfl,
    show k0_pay5 (F := Ideal) (k0_pay3 x) (k0_pay4 x) (Scalar.ofBits .f32 0x00000000#32) = scaleOf (F := Ideal) x from rfl]
  generalize codesOf (F := Ideal) x = q
  generalize scaleOf (F := Ideal) x = s
  pointwise

variable (m : (ℓ : Loc nD τ sig) → Buf (Elt Ideal) ℓ)

theorem arr4 (c : Dev nD) : (dats m 0 c).arrAt 4 cfg0.N = Cert.KernelIdeal.Run.yArr (codesOf (F := Ideal) (m ((c : Thread nD τ).loc main_arg0)))
    (scaleOf (F := Ideal) (m ((c : Thread nD τ).loc main_arg0))) (m ((c : Thread nD τ).loc main_arg1)) (m ((c : Thread nD τ).loc main_arg2))
    (m ((c : Thread nD τ).loc main_arg3)) := by
  refine (dats m 0 c).arrAt_eq_of_covers 4 _ (by decide +kernel) fun t hf y => ?_
  refine Eq.trans ?_ (congrArg _ (emb4 t y).symm)
  blk_simp
  rw [after0_4]
  obtain ⟨r, l, rfl⟩ : ∃ (r : Fin 128) (l : Fin 8192), y = ix3 r 0 l := ⟨y 0, y 2, by
    funext a; fin_cases a
    · rfl
    · exact Fin.ext (by have := (y 1).isLt; show (y 1).val = 0; change (y 1).val < 1 at this; omega)
    · rfl⟩
  unfold out0_4
  frame_out
  unfold k0_pay10 k0_pay11 k0_pay12 k0_pay13
  rw [ld0, iblk0_eq, iblk1_eq]
  refine (pay7_at _ _ _ _ r l).trans ?_
  rw [iblk2_at, iblk3_at]
  rfl

end Cert.ReferenceIdeal.Run

end
-- ==== Proof.Agree.lean ====
module

public import proofs.«01_k».proof.Proof.Scale
public import proofs.«01_k».proof.Proof.RefValue

@[expose] public section

set_option maxRecDepth 16384

noncomputable section

namespace Cert.Agree

open Idealize.ShloMosaic Idealize.ShloMosaic.TcCoe Idealize.ShloMosaic.Tactic
open Cert.KernelIdeal (S128x1x8192 S128x8192 S128x1 S128)

/-! ## The two quantisers agree -/

/-- Every index of a column. -/
theorem col_idx (i : S128x1.Idx) : ∃ r : Fin 128, i = ix2 r 0 := ⟨i 0, by
  funext a; fin_cases a
  · rfl
  · exact Fin.ext (by have := (i 1).isLt; show (i 1).val = 0; change (i 1).val < 1 at this; omega)⟩

/-! ### The kernel's exponent -/

/-- One step of the search, on a column. -/
def vstep (w : FVec Ideal S128x1 .f32) (t : IVec S128x1 32) (s : BitVec 32) : IVec S128x1 32 :=
  select (cmpf .oge w (bitcastToFloat .f32 (shli (addi t (broadcast S128x1 s)) (broadcast S128x1 23#32))))
    (addi t (broadcast S128x1 s)) t

theorem vstep_at (w : FVec Ideal S128x1 .f32) (t : IVec S128x1 32) (s : BitVec 32) (i : S128x1.Idx) :
    vstep w t s i = Scale.step (w i) (t i) s := rfl

/-- The exponent from the field, on a column. -/
def vexpo (a : FVec Ideal S128x1 .f32) (T : IVec S128x1 32) : IVec S128x1 32 :=
  select (cmpf .oeq a (broadcast S128x1 (Scalar.ofBits (F := Ideal) .f32 0x00000000#32))) (broadcast S128x1 0#32)
    (select (ori (cmpi .eq T (broadcast S128x1 0#32)) (cmpi .eq T (broadcast S128x1 255#32))) (broadcast S128x1 0#32)
      (subi T (broadcast S128x1 126#32)))

theorem vexpo_at (a : FVec Ideal S128x1 .f32) (T : IVec S128x1 32) (i : S128x1.Idx) :
    vexpo a T i = Scale.expoOfField (a i) (T i) := rfl

section
variable (x : Vec Ideal S128x1x8192 .f32)

/-- Each row's largest magnitude, and the same divided by 448. -/
def rowMax : FVec Ideal S128x1 .f32 := KernelIdeal.Gen.k0_pay7 (F := Ideal) x
def rowMag : FVec Ideal S128x1 .f32 := absf (KernelIdeal.Gen.k0_pay8 (F := Ideal) x)

theorem pay9_eq : KernelIdeal.Gen.k0_pay9 (F := Ideal) x
    = vstep (rowMag x) (vstep (rowMag x) (vstep (rowMag x) (vstep (rowMag x) (broadcast S128x1 0#32) 128#32) 64#32) 32#32) 16#32 := by
  unfold KernelIdeal.Gen.k0_pay9 rowMag
  generalize absf (KernelIdeal.Gen.k0_pay8 (F := Ideal) x) = w
  rfl

end

theorem pay13_eq (a v26 : FVec Ideal S128x1 .f32) (t : IVec S128x1 32) :
    KernelIdeal.Gen.k0_pay13 (F := Ideal) a v26 t (addi t (broadcast S128x1 8#32)) (absf v26) (broadcast S128x1 23#32)
      = vexpo a (vstep (absf v26) (vstep (absf v26) (vstep (absf v26) (vstep (absf v26) t 8#32) 4#32) 2#32) 1#32) := by
  unfold KernelIdeal.Gen.k0_pay13
  generalize absf v26 = w
  rfl

section
variable (x : Vec Ideal S128x1x8192 .f32)

/-- The kernel's exponent, entry by entry: the search. -/
theorem expo_at (i : S128x1.Idx) : KernelIdeal.Run.expo (F := Ideal) x i = Scale.expoOfField (rowMax x i) (Scale.search (rowMag x i)) := by
  have h : KernelIdeal.Run.expo (F := Ideal) x = _ :=
    pay13_eq (KernelIdeal.Gen.k0_pay7 (F := Ideal) x) (KernelIdeal.Gen.k0_pay8 (F := Ideal) x) (KernelIdeal.Gen.k0_pay9 (F := Ideal) x)
  rw [h, pay9_eq, vexpo_at]
  unfold Scale.search
  simp only [vstep_at]
  rfl
end

/-! ### The reference's exponent -/

/-- The table of comparisons with the powers of two. -/
def table (w : FVec Ideal S128x1 .f32) : IVec ReferenceIdeal.S128x254 32 :=
  select (cmpf .ole (exp2 (sitofp .f32 (subi (iota .tc ReferenceIdeal.S128x254 32 [1] ReferenceIdeal.Gen.iota_S128x254_d1_w32)
      (broadcast ReferenceIdeal.S128x254 126#32))))
    (broadcastTo ReferenceIdeal.S128x254 w ReferenceIdeal.Gen.broadcasts_S128x1_S128x254))
    (broadcast ReferenceIdeal.S128x254 1#32) (broadcast ReferenceIdeal.S128x254 0#32)

/-- The number of powers that do not exceed each row's magnitude. -/
def rowCount (w : FVec Ideal S128x1 .f32) : IVec S128 32 :=
  multiReductionI .add [1] S128 (table w) 0#32 ReferenceIdeal.Gen.reduces_S128x254_S128 rfl

theorem table_at (w : FVec Ideal S128x1 .f32) (r : Fin 128) (k : Fin 254) :
    table w (ix2 r k) = Scale.countTerm (w (ix2 r 0)) (BitVec.ofNat 32 k.val) := by
  unfold table Scale.countTerm
  pointwise

theorem rowCount_toNat (w : FVec Ideal S128x1 .f32) (r : Fin 128) (T : ℕ)
    (hT : ∀ c, 1 ≤ c → c ≤ 255 → (Scale.pat (BitVec.ofNat 32 c) ≤ w (ix2 r 0) ↔ c ≤ T)) :
    (rowCount w (ix1 r)).toNat = min T 254 := by
  have hs : ∀ k : Fin 254, (table w (ix2 r k)).toNat = if k.val < T then 1 else 0 := fun k => by
    rw [table_at]; exact Scale.countTerm_toNat _ T hT k
  have hsum : ∑ i ∈ Finset.univ.filter (fun i => ReferenceIdeal.Gen.reduces_S128x254_S128.drop i = ix1 r), (table w i).toNat
      = min T 254 := by
    rw [Shape.Reduces.sum_fiber_r2_a1, ← Scale.count_sum T]
    exact Finset.sum_congr rfl fun k _ => hs k
  unfold rowCount
  exact (WordSum.toNat_multiReductionI_add (table w) _ _ _ (by rw [hsum]; omega)).trans hsum

/-- The exponent from the count, on a column. -/
def vcount (a w : FVec Ideal S128x1 .f32) (C : IVec S128x1 32) : IVec S128x1 32 :=
  select (cmpf .oeq a (broadcast S128x1 (Scalar.ofBits (F := Ideal) .f32 0x00000000#32))) (broadcast S128x1 0#32)
    (select (ori (cmpi .eq C (broadcast S128x1 0#32)) (cmpf .oeq w (broadcast S128x1 (Scalar.ofBits (F := Ideal) .f32 0x7F800000#32))))
      (broadcast S128x1 0#32) (subi C (broadcast S128x1 126#32)))

theorem vcount_at (a w : FVec Ideal S128x1 .f32) (C : IVec S128x1 32) (i : S128x1.Idx) :
    vcount a w C i = Scale.expoOfCount (a i) (w i) (C i) := rfl

theorem col_cast (c : IVec S128 32) (r : Fin 128) : shapeCast S128x1 c ReferenceIdeal.Gen.shapeCasts_S128_S128x1 (ix2 r 0) = c (ix1 r) := by
  pointwise

section
variable (x : Vec Ideal S128x1x8192 .f32)

theorem pay2_eq : ReferenceIdeal.Gen.k0_pay2 (F := Ideal) x
    = vcount (rowMax x) (rowMag x) (shapeCast S128x1 (rowCount (rowMag x)) ReferenceIdeal.Gen.shapeCasts_S128_S128x1) := by
  unfold ReferenceIdeal.Gen.k0_pay2 vcount rowCount table rowMag rowMax KernelIdeal.Gen.k0_pay8 KernelIdeal.Gen.k0_pay7 KernelIdeal.Gen.k0_pay6 ReferenceIdeal.Gen.k0_pay1
  dsimp only

theorem expo_eq : KernelIdeal.Run.expo (F := Ideal) x = ReferenceIdeal.Gen.k0_pay2 (F := Ideal) x := by
  funext i
  obtain ⟨r, rfl⟩ := col_idx i
  rw [expo_at, pay2_eq, vcount_at, col_cast]
  exact Scale.expo_eq _ _ _ fun T hT => rowCount_toNat _ r T hT
end

/-! ### The scales and the codes -/

theorem scale_kernel (e : IVec S128x1 32) (i : S128x1.Idx) :
    KernelIdeal.Gen.k0_pay1 (F := Ideal) (minsi (broadcast S128x1 128#32) (maxsi (broadcast S128x1 4294967169#32) e)) 127#32 i
      = Scale.powField (e i) := rfl

/-- The reference's power of two, on a column. -/
def vpow (e : IVec S128x1 32) : FVec Ideal S128x1 .f32 :=
  select (cmpi .slt e (broadcast S128x1 4294967170#32)) (broadcast S128x1 (Scalar.ofBits (F := Ideal) .f32 0x00000000#32))
    (select (cmpi .sgt e (broadcast S128x1 127#32)) (broadcast S128x1 (Scalar.ofBits (F := Ideal) .f32 0x7F800000#32))
      (exp2 (sitofp .f32 e)))

theorem vpow_at (e : IVec S128x1 32) (i : S128x1.Idx) : vpow e i = Scale.powExp (e i) := rfl

/-- The kernel's inverse scales, on a column. -/
def vinv (e : IVec S128x1 32) : FVec Ideal S128x1 .f32 :=
  bitcastToFloat .f32 (shli (addi (minsi (broadcast S128x1 128#32) (maxsi (broadcast S128x1 4294967169#32)
    (subi (broadcast S128x1 0#32) e))) (broadcast S128x1 127#32)) (broadcast S128x1 23#32))

theorem vinv_at (e : IVec S128x1 32) (i : S128x1.Idx) : vinv e i = Scale.powField (IntOp.subi 0#32 (e i)) := rfl

/-- The quantised block, from the inverse scales. -/
def quant (x1 : FVec Ideal S128x8192 .f32) (s : FVec Ideal S128x1 .f32) : FVec Ideal S128x8192 .fp8e4m3 :=
  truncf .fp8e4m3 (minimumf (broadcast S128x8192 (Scalar.ofBits (F := Ideal) .f32 0x43E00000#32))
    (maximumf (broadcast S128x8192 (Scalar.ofBits (F := Ideal) .f32 0xC3E00000#32))
      (mulf x1 (broadcastTo S128x8192 s KernelIdeal.Gen.broadcasts_S128x1_S128x8192)))) KernelIdeal.Gen.bitsLt_fp8e4m3_f32

theorem codes_kernel (x1 : FVec Ideal S128x8192 .f32) (e : IVec S128x1 32) :
    KernelIdeal.Gen.k0_pay2 (F := Ideal) x1 e = quant x1 (vinv e) := by
  unfold KernelIdeal.Gen.k0_pay2 quant vinv
  dsimp only
theorem codes_ref (x1 : FVec Ideal S128x8192 .f32) (e : IVec S128x1 32) :
    ReferenceIdeal.Gen.k0_pay6 (F := Ideal) x1 e = quant x1 (vpow (subi (broadcast S128x1 0#32) e)) := by
  unfold ReferenceIdeal.Gen.k0_pay6 quant vpow
  dsimp only

section
variable (x : Vec Ideal S128x1x8192 .f32)

/-- The scales. -/
theorem scale_eq : KernelIdeal.Run.scaleOf (F := Ideal) x = ReferenceIdeal.Run.scaleOf (F := Ideal) x := by
  have hr : ReferenceIdeal.Run.scaleOf (F := Ideal) x = vpow (ReferenceIdeal.Gen.k0_pay2 (F := Ideal) x) := by
    unfold ReferenceIdeal.Run.scaleOf ReferenceIdeal.Gen.k0_pay3 ReferenceIdeal.Gen.k0_pay4 ReferenceIdeal.Gen.k0_pay5
    generalize ReferenceIdeal.Gen.k0_pay2 (F := Ideal) x = e
    unfold vpow
    dsimp only
  have hc : KernelIdeal.Run.clampedExpo (F := Ideal) x
      = minsi (broadcast S128x1 128#32) (maxsi (broadcast S128x1 4294967169#32) (KernelIdeal.Run.expo (F := Ideal) x)) := by
    unfold KernelIdeal.Run.clampedExpo KernelIdeal.Gen.k0_pay14 KernelIdeal.Run.expo
    rfl
  rw [hr, ← expo_eq]
  funext i
  rw [vpow_at]
  unfold KernelIdeal.Run.scaleOf KernelIdeal.Gen.k0_pay3
  rw [hc]
  refine (shapeCast_apply _ _ i i rfl).trans ?_
  rw [scale_kernel, expo_at, Scale.scale_eq]

/-- The codes. -/
theorem codes_eq : KernelIdeal.Run.codesOf (F := Ideal) x = ReferenceIdeal.Run.codesOf (F := Ideal) x := by
  unfold KernelIdeal.Run.codesOf ReferenceIdeal.Run.codesOf
  have h1 : KernelIdeal.Gen.k0_pay6 (F := Ideal) x = ReferenceIdeal.Gen.k0_pay1 (F := Ideal) x := by
    unfold KernelIdeal.Gen.k0_pay6 ReferenceIdeal.Gen.k0_pay1
    rfl
  have h2 : vinv (KernelIdeal.Run.expo (F := Ideal) x)
      = vpow (subi (broadcast S128x1 0#32) (KernelIdeal.Run.expo (F := Ideal) x)) := by
    funext i
    have h3 := vpow_at (subi (broadcast S128x1 0#32) (KernelIdeal.Run.expo (F := Ideal) x)) i
    have h4 : subi (broadcast S128x1 0#32) (KernelIdeal.Run.expo (F := Ideal) x) i
        = IntOp.subi 0#32 (KernelIdeal.Run.expo (F := Ideal) x i) := by
      generalize KernelIdeal.Run.expo (F := Ideal) x = e
      rfl
    rw [h3, h4, vinv_at, expo_at, Scale.inverse_eq]
  rw [codes_kernel, codes_ref, ← expo_eq, h1, h2]
end

end Cert.Agree

end
-- ==== Proof.Results.lean ====
module

public import proofs.«01_k».proof.Defs
public import proofs.«01_k».proof.Proof.Agree

@[expose] public section

set_option maxRecDepth 16384

noncomputable section

namespace Cert.Results

open Idealize.ShloMosaic Idealize.ShloMosaic.TcCoe Idealize.ShloMosaic.Tactic
open Idealize.SL.Sem
open Cert.KernelIdeal (S128x1x8192 S128x8192 S128x1x1 S128x1 S8192x8192 S8192)

/-! ## The three results of both programs, from the arguments -/

/-- The quantised block and the scales, in the shapes the programs return. -/
def codesArr (x : Vec Ideal S128x1x8192 .f32) : FVec Ideal S128x1x8192 .fp8e4m3 := fun i => KernelIdeal.Run.codesOf (F := Ideal) x (ix2 (i 0) (i 2))
def scaleArr (x : Vec Ideal S128x1x8192 .f32) : FVec Ideal S128x1x1 .f32 := fun i => KernelIdeal.Run.scaleOf (F := Ideal) x (ix2 (i 0) 0)

/-- The scaled product. -/
def yRes (x : Vec Ideal S128x1x8192 .f32) (w : FVec Ideal S8192x8192 .fp8e4m3) (ws b : FVec Ideal S8192 .f32) : FVec Ideal S128x1x8192 .f32 :=
  KernelIdeal.Run.yArr (KernelIdeal.Run.codesOf (F := Ideal) x) (KernelIdeal.Run.scaleOf (F := Ideal) x) w ws b

theorem idx_block (i : S128x1x8192.Idx) : ∃ (r : Fin 128) (l : Fin 8192), i = ix3 r 0 l := ⟨i 0, i 2, by
  funext a; fin_cases a
  · rfl
  · exact Fin.ext (by have := (i 1).isLt; show (i 1).val = 0; change (i 1).val < 1 at this; omega)
  · rfl⟩

theorem idx_scale (i : S128x1x1.Idx) : ∃ r : Fin 128, i = ix3 r 0 0 := ⟨i 0, by
  funext a; fin_cases a
  · rfl
  · exact Fin.ext (by have := (i 1).isLt; show (i 1).val = 0; change (i 1).val < 1 at this; omega)
  · exact Fin.ext (by have := (i 2).isLt; show (i 2).val = 0; change (i 2).val < 1 at this; omega)⟩

theorem cast_codes (q : FVec Ideal S128x8192 .fp8e4m3) (r : Fin 128) (l : Fin 8192) :
    shapeCast S128x1x8192 q ReferenceIdeal.Gen.shapeCasts_S128x8192_S128x1x8192 (ix3 r 0 l) = q (ix2 r l) := by
  pointwise

theorem cast_scale (s : FVec Ideal S128x1 .f32) (r : Fin 128) :
    shapeCast S128x1x1 s ReferenceIdeal.Gen.shapeCasts_S128x1_S128x1x1 (ix3 r 0 0) = s (ix2 r 0) := by
  pointwise

section Kernel
open Cert.KernelIdeal Cert.KernelIdeal.Run
variable (m : (ℓ : Loc nD τ sig) → Buf (Elt Ideal) ℓ) (g : Dev nD → PrngReg)

theorem kernel_y (c : Dev nD) : (dats m 0 c).arrAt 4 cfg0.N = yRes (m ((c : Thread nD τ).loc main_arg0)) (m ((c : Thread nD τ).loc main_arg1))
    (m ((c : Thread nD τ).loc main_arg2)) (m ((c : Thread nD τ).loc main_arg3)) := arr4 m c

theorem kernel_codes (c : Dev nD) : Pipeline.afterTail₀ cfgs (dats m) 0 (Gen.V0 m) [Gen.hostOps1] c main_v3
    = codesArr (m ((c : Thread nD τ).loc main_arg0)) := by
  refine funext fun i => ?_
  obtain ⟨r, l, rfl⟩ := idx_block i
  exact tail_v3 m c r l

theorem kernel_scale (c : Dev nD) : Pipeline.afterTail₀ cfgs (dats m) 0 (Gen.V0 m) [Gen.hostOps1] c main_v4
    = scaleArr (m ((c : Thread nD τ).loc main_arg0)) := by
  refine funext fun i => ?_
  obtain ⟨r, rfl⟩ := idx_scale i
  exact (tail_v4 m c r).trans (rowOf_at _ r)

/-- The kernel: it ends with these results, its arguments unchanged, every semaphore at zero. -/
theorem kernel_run : θ_run (defs (F := Ideal)) (onTc (τ := τ) (main (F := Ideal))) ⟨m, fun _ => 0, g⟩ (fun r => (∀ c : Dev nD,
      (r.2.mem ((c.tc : Thread nD τ).loc main_v2_0) = yRes (m ((c.tc : Thread nD τ).loc main_arg0)) (m ((c.tc : Thread nD τ).loc main_arg1))
          (m ((c.tc : Thread nD τ).loc main_arg2)) (m ((c.tc : Thread nD τ).loc main_arg3))
        ∧ r.2.mem ((c.tc : Thread nD τ).loc main_v3) = codesArr (m ((c.tc : Thread nD τ).loc main_arg0))
        ∧ r.2.mem ((c.tc : Thread nD τ).loc main_v4) = scaleArr (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r hr => ⟨fun c => by
    obtain ⟨h, -⟩ := hr
    refine ⟨⟨((h c).1 4).trans (kernel_y m c),
        ((h c).2 main_v3 (Pipeline.mem_restRefs_of main_v3 (by decide) (by decide))).trans (kernel_codes m c),
        ((h c).2 main_v4 (Pipeline.mem_restRefs_of main_v4 (by decide) (by decide))).trans (kernel_scale m c)⟩,
      ((h c).1 0).trans (((dats m 0 c).arrAt_in 0 rfl _).trans ((A_eq m c 0).trans (Gen.V_main_arg0 m c))),
      ((h c).1 1).trans (((dats m 0 c).arrAt_in 1 rfl _).trans ((A_eq m c 1).trans (Gen.V_main_arg1 m c))),
      ((h c).2 main_arg2 (Pipeline.mem_restRefs_of main_arg2 (by decide) (by decide))).trans (Gen.W_main_arg2 m (dats m) c),
      ((h c).2 main_arg3 (Pipeline.mem_restRefs_of main_arg3 (by decide) (by decide))).trans (Gen.W_main_arg3 m (dats m) c)⟩, hr.2⟩)
    (run_main m g)

end Kernel

section Reference
open Cert.ReferenceIdeal Cert.ReferenceIdeal.Run
variable (m : (ℓ : Loc nD τ sig) → Buf (Elt Ideal) ℓ) (g : Dev nD → PrngReg)

theorem ref_y (c : Dev nD) : (Gen.dats m 0 c).arrAt 4 cfg0.N = yRes (m ((c : Thread nD τ).loc main_arg0)) (m ((c : Thread nD τ).loc main_arg1))
    (m ((c : Thread nD τ).loc main_arg2)) (m ((c : Thread nD τ).loc main_arg3)) := by
  refine (arr4 m c).trans ?_
  unfold yRes
  rw [Agree.codes_eq, Agree.scale_eq]

theorem ref_codes (c : Dev nD) : (Gen.dats m 0 c).arrAt 5 cfg0.N = codesArr (m ((c : Thread nD τ).loc main_arg0)) := by
  refine (arr5 m c).trans (funext fun i => ?_)
  obtain ⟨r, l, rfl⟩ := idx_block i
  refine (cast_codes _ r l).trans ?_
  rw [← Agree.codes_eq]
  rfl

theorem ref_scale (c : Dev nD) : (Gen.dats m 0 c).arrAt 6 cfg0.N = scaleArr (m ((c : Thread nD τ).loc main_arg0)) := by
  refine (arr6 m c).trans (funext fun i => ?_)
  obtain ⟨r, rfl⟩ := idx_scale i
  refine (cast_scale _ r).trans ?_
  rw [← Agree.scale_eq]
  rfl

/-- The reference ends with the same results of its arguments, and its arguments unchanged. -/
theorem ref_run : θ_run (defs (F := Ideal)) (onTc (τ := τ) (main (F := Ideal))) ⟨m, fun _ => 0, g⟩ (fun r => ∀ c : Dev nD,
      (r.2.mem ((c.tc : Thread nD τ).loc main_v2_0) = yRes (m ((c.tc : Thread nD τ).loc main_arg0)) (m ((c.tc : Thread nD τ).loc main_arg1))
          (m ((c.tc : Thread nD τ).loc main_arg2)) (m ((c.tc : Thread nD τ).loc main_arg3))
        ∧ r.2.mem ((c.tc : Thread nD τ).loc main_v2_1) = codesArr (m ((c.tc : Thread nD τ).loc main_arg0))
        ∧ r.2.mem ((c.tc : Thread nD τ).loc main_v2_2) = scaleArr (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨⟨((h c).1 4).trans (ref_y m c), ((h c).1 5).trans (ref_codes m c), ((h c).1 6).trans (ref_scale m c)⟩,
      ((h c).1 0).trans (((Gen.dats m 0 c).arrAt_in 0 rfl _).trans ((Gen.A_eq m c 0).trans (Gen.V_main_arg0 m c))),
      ((h c).1 1).trans (((Gen.dats m 0 c).arrAt_in 1 rfl _).trans ((Gen.A_eq m c 1).trans (Gen.V_main_arg1 m c))),
      ((h c).2 main_arg2 (Pipeline.mem_restRefs_of main_arg2 (by decide) (by decide))).trans (Gen.V_main_arg2 m c),
      ((h c).2 main_arg3 (Pipeline.mem_restRefs_of main_arg3 (by decide) (by decide))).trans (Gen.V_main_arg3 m c)⟩)
    (Gen.run_main m g)

end Reference

end Cert.Results

end
-- ==== Proof.lean ====
module

public import proofs.«01_k».proof.Defs
public import proofs.«01_k».proof.Proof.Gen.Kernel.Frame
public import proofs.«01_k».proof.Proof.BitsData
public import proofs.«01_k».proof.Proof.Gen.KernelIdeal.Frame
public import proofs.«01_k».proof.Proof.Gen.ReferenceIdeal.Frame
public import proofs.«01_k».proof.Proof.Results

@[expose] public section

open Idealize.ShloMosaic Idealize.SL.Sem

/-- The kernel runs and keeps its arguments; so do its ideal reading and the reference; and the two end with the same `y`, the
    same codes and the same scales. -/
theorem Cert.Proof.claim : Cert.Claim :=
  ⟨Cert.Kernel.Gen.facts, Cert.KernelIdeal.Gen.facts, Cert.ReferenceIdeal.Gen.facts,
    fun m g _ => Cert.Kernel.Run.quiet m g,
    fun m g _ => (θ_run _ _ _).mono (fun _ h => ⟨fun c => (h.1 c).2, h.2⟩) (Cert.Results.kernel_run m g),
    fun m g _ => Cert.ReferenceIdeal.Gen.frame m g,
    trivial,
    fun m g m' g' _ hargs =>
      ⟨fun c => Cert.Results.yRes (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)),
        fun c => Cert.Results.codesArr (m ((c.tc : Thread Cert.KernelIdeal.nD Cert.KernelIdeal.τ).loc Cert.KernelIdeal.main_arg0)),
        fun c => Cert.Results.scaleArr (m ((c.tc : Thread Cert.KernelIdeal.nD Cert.KernelIdeal.τ).loc Cert.KernelIdeal.main_arg0)),
        (θ_run _ _ _).mono (fun _ h c => ⟨(h.1 c).1.1, (h.1 c).1.2.1, (h.1 c).1.2.2, (h.1 c).2⟩) (Cert.Results.kernel_run m g),
        (θ_run _ _ _).mono (fun _ h c => by
          obtain ⟨a0, a1, a2, a3⟩ := hargs c
          obtain ⟨⟨h0, h1, h2⟩, hk⟩ := h c
          rw [a0, a1, a2, a3] at h0
          rw [a0] at h1 h2
          exact ⟨h0, h1, h2, hk⟩) (Cert.Results.ref_run m' g')⟩⟩
